-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0))) = (fun _ => 1#1)

def Pre_OutMlp (m : (ℓ : Loc Cert.OutMlp.nD Cert.OutMlp.τ Cert.OutMlp.sig) → Buf (Elt Bits) ℓ) : Prop :=
  True

def Pre_OutMlpIdeal (m : (ℓ : Loc Cert.OutMlpIdeal.nD Cert.OutMlpIdeal.τ Cert.OutMlpIdeal.sig) → Buf (Elt Ideal) ℓ) : Prop :=
  True

def Pre_OutMlpReferenceIdeal (m : (ℓ : Loc Cert.OutMlpReferenceIdeal.nD Cert.OutMlpReferenceIdeal.τ Cert.OutMlpReferenceIdeal.sig) → Buf (Elt Ideal) ℓ) : Prop :=
  True

def Pre_MidMlp (m : (ℓ : Loc Cert.MidMlp.nD Cert.MidMlp.τ Cert.MidMlp.sig) → Buf (Elt Bits) ℓ) : Prop :=
  True

def Pre_MidMlpIdeal (m : (ℓ : Loc Cert.MidMlpIdeal.nD Cert.MidMlpIdeal.τ Cert.MidMlpIdeal.sig) → Buf (Elt Ideal) ℓ) : Prop :=
  True

def Pre_MidMlpReferenceIdeal (m : (ℓ : Loc Cert.MidMlpReferenceIdeal.nD Cert.MidMlpReferenceIdeal.τ Cert.MidMlpReferenceIdeal.sig) → Buf (Elt Ideal) ℓ) : Prop :=
  True

def Pre_QkvProj (m : (ℓ : Loc Cert.QkvProj.nD Cert.QkvProj.τ Cert.QkvProj.sig) → Buf (Elt Bits) ℓ) : Prop :=
  True

def Pre_QkvProjIdeal (m : (ℓ : Loc Cert.QkvProjIdeal.nD Cert.QkvProjIdeal.τ Cert.QkvProjIdeal.sig) → Buf (Elt Ideal) ℓ) : Prop :=
  True

def Pre_QkvProjReferenceIdeal (m : (ℓ : Loc Cert.QkvProjReferenceIdeal.nD Cert.QkvProjReferenceIdeal.τ Cert.QkvProjReferenceIdeal.sig) → Buf (Elt Ideal) ℓ) : Prop :=
  True

def Pre_GdnProj (m : (ℓ : Loc Cert.GdnProj.nD Cert.GdnProj.τ Cert.GdnProj.sig) → Buf (Elt Bits) ℓ) : Prop :=
  True

def Pre_GdnProjIdeal (m : (ℓ : Loc Cert.GdnProjIdeal.nD Cert.GdnProjIdeal.τ Cert.GdnProjIdeal.sig) → Buf (Elt Ideal) ℓ) : Prop :=
  True

def Pre_GdnProjReferenceIdeal (m : (ℓ : Loc Cert.GdnProjReferenceIdeal.nD Cert.GdnProjReferenceIdeal.τ Cert.GdnProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_OutMlp [hOutMlp : Cert.OutMlp.Facts] : Prop :=
  ∀ (m : (ℓ : Loc Cert.OutMlp.nD Cert.OutMlp.τ Cert.OutMlp.sig) → Buf (Elt Bits) ℓ) (g : Dev Cert.OutMlp.nD → PrngReg), Pre_OutMlp m →
    θ_run (Cert.OutMlp.defs (F := Bits)) (onTc (τ := Cert.OutMlp.τ) (Cert.OutMlp.main (F := Bits))) ⟨m, fun _ => 0, g⟩ (fun r => (∀ c : Dev Cert.OutMlp.nD,
      r.2.mem ((c.tc : Thread Cert.OutMlp.nD Cert.OutMlp.τ).loc Cert.OutMlp.main_arg0) = m ((c.tc : Thread Cert.OutMlp.nD Cert.OutMlp.τ).loc Cert.OutMlp.main_arg0)
      ∧ r.2.mem ((c.tc : Thread Cert.OutMlp.nD Cert.OutMlp.τ).loc Cert.OutMlp.main_arg1) = m ((c.tc : Thread Cert.OutMlp.nD Cert.OutMlp.τ).loc Cert.OutMlp.main_arg1)
      ∧ r.2.mem ((c.tc : Thread Cert.OutMlp.nD Cert.OutMlp.τ).loc Cert.OutMlp.main_arg2) = m ((c.tc : Thread Cert.OutMlp.nD Cert.OutMlp.τ).loc Cert.OutMlp.main_arg2)
      ∧ r.2.mem ((c.tc : Thread Cert.OutMlp.nD Cert.OutMlp.τ).loc Cert.OutMlp.main_arg3) = m ((c.tc : Thread Cert.OutMlp.nD Cert.OutMlp.τ).loc Cert.OutMlp.main_arg3)
      ∧ r.2.mem ((c.tc : Thread Cert.OutMlp.nD Cert.OutMlp.τ).loc Cert.OutMlp.main_arg4) = m ((c.tc : Thread Cert.OutMlp.nD Cert.OutMlp.τ).loc Cert.OutMlp.main_arg4)
      ∧ r.2.mem ((c.tc : Thread Cert.OutMlp.nD Cert.OutMlp.τ).loc Cert.OutMlp.main_arg5) = m ((c.tc : Thread Cert.OutMlp.nD Cert.OutMlp.τ).loc Cert.OutMlp.main_arg5)
      ∧ r.2.mem ((c.tc : Thread Cert.OutMlp.nD Cert.OutMlp.τ).loc Cert.OutMlp.main_arg6) = m ((c.tc : Thread Cert.OutMlp.nD Cert.OutMlp.τ).loc Cert.OutMlp.main_arg6))
      ∧ r.2.sem = fun _ => 0)

def quiescent_OutMlpIdeal [hOutMlpIdeal : Cert.OutMlpIdeal.Facts] : Prop :=
  ∀ (m : (ℓ : Loc Cert.OutMlpIdeal.nD Cert.OutMlpIdeal.τ Cert.OutMlpIdeal.sig) → Buf (Elt Ideal) ℓ) (g : Dev Cert.OutMlpIdeal.nD → PrngReg), Pre_OutMlpIdeal m →
    θ_run (Cert.OutMlpIdeal.defs (F := Ideal)) (onTc (τ := Cert.OutMlpIdeal.τ) (Cert.OutMlpIdeal.main (F := Ideal))) ⟨m, fun _ => 0, g⟩ (fun r => (∀ c : Dev Cert.OutMlpIdeal.nD,
      r.2.mem ((c.tc : Thread Cert.OutMlpIdeal.nD Cert.OutMlpIdeal.τ).loc Cert.OutMlpIdeal.main_arg0) = m ((c.tc : Thread Cert.OutMlpIdeal.nD Cert.OutMlpIdeal.τ).loc Cert.OutMlpIdeal.main_arg0)
      ∧ r.2.mem ((c.tc : Thread Cert.OutMlpIdeal.nD Cert.OutMlpIdeal.τ).loc Cert.OutMlpIdeal.main_arg1) = m ((c.tc : Thread Cert.OutMlpIdeal.nD Cert.OutMlpIdeal.τ).loc Cert.OutMlpIdeal.main_arg1)
      ∧ r.2.mem ((c.tc : Thread Cert.OutMlpIdeal.nD Cert.OutMlpIdeal.τ).loc Cert.OutMlpIdeal.main_arg2) = m ((c.tc : Thread Cert.OutMlpIdeal.nD Cert.OutMlpIdeal.τ).loc Cert.OutMlpIdeal.main_arg2)
      ∧ r.2.mem ((c.tc : Thread Cert.OutMlpIdeal.nD Cert.OutMlpIdeal.τ).loc Cert.OutMlpIdeal.main_arg3) = m ((c.tc : Thread Cert.OutMlpIdeal.nD Cert.OutMlpIdeal.τ).loc Cert.OutMlpIdeal.main_arg3)
      ∧ r.2.mem ((c.tc : Thread Cert.OutMlpIdeal.nD Cert.OutMlpIdeal.τ).loc Cert.OutMlpIdeal.main_arg4) = m ((c.tc : Thread Cert.OutMlpIdeal.nD Cert.OutMlpIdeal.τ).loc Cert.OutMlpIdeal.main_arg4)
      ∧ r.2.mem ((c.tc : Thread Cert.OutMlpIdeal.nD Cert.OutMlpIdeal.τ).loc Cert.OutMlpIdeal.main_arg5) = m ((c.tc : Thread Cert.OutMlpIdeal.nD Cert.OutMlpIdeal.τ).loc Cert.OutMlpIdeal.main_arg5)
      ∧ r.2.mem ((c.tc : Thread Cert.OutMlpIdeal.nD Cert.OutMlpIdeal.τ).loc Cert.OutMlpIdeal.main_arg6) = m ((c.tc : Thread Cert.OutMlpIdeal.nD Cert.OutMlpIdeal.τ).loc Cert.OutMlpIdeal.main_arg6))
      ∧ r.2.sem = fun _ => 0)

def quiescent_OutMlpReferenceIdeal [hOutMlpReferenceIdeal : Cert.OutMlpReferenceIdeal.Facts] : Prop :=
  ∀ (m : (ℓ : Loc Cert.OutMlpReferenceIdeal.nD Cert.OutMlpReferenceIdeal.τ Cert.OutMlpReferenceIdeal.sig) → Buf (Elt Ideal) ℓ) (g : Dev Cert.OutMlpReferenceIdeal.nD → PrngReg), Pre_OutMlpReferenceIdeal m →
    θ_run (Cert.OutMlpReferenceIdeal.defs (F := Ideal)) (onTc (τ := Cert.OutMlpReferenceIdeal.τ) (Cert.OutMlpReferenceIdeal.main (F := Ideal))) ⟨m, fun _ => 0, g⟩ (fun r => (∀ c : Dev Cert.OutMlpReferenceIdeal.nD,
      r.2.mem ((c.tc : Thread Cert.OutMlpReferenceIdeal.nD Cert.OutMlpReferenceIdeal.τ).loc Cert.OutMlpReferenceIdeal.main_arg0) = m ((c.tc : Thread Cert.OutMlpReferenceIdeal.nD Cert.OutMlpReferenceIdeal.τ).loc Cert.OutMlpReferenceIdeal.main_arg0)
      ∧ r.2.mem ((c.tc : Thread Cert.OutMlpReferenceIdeal.nD Cert.OutMlpReferenceIdeal.τ).loc Cert.OutMlpReferenceIdeal.main_arg1) = m ((c.tc : Thread Cert.OutMlpReferenceIdeal.nD Cert.OutMlpReferenceIdeal.τ).loc Cert.OutMlpReferenceIdeal.main_arg1)
      ∧ r.2.mem ((c.tc : Thread Cert.OutMlpReferenceIdeal.nD Cert.OutMlpReferenceIdeal.τ).loc Cert.OutMlpReferenceIdeal.main_arg2) = m ((c.tc : Thread Cert.OutMlpReferenceIdeal.nD Cert.OutMlpReferenceIdeal.τ).loc Cert.OutMlpReferenceIdeal.main_arg2)
      ∧ r.2.mem ((c.tc : Thread Cert.OutMlpReferenceIdeal.nD Cert.OutMlpReferenceIdeal.τ).loc Cert.OutMlpReferenceIdeal.main_arg3) = m ((c.tc : Thread Cert.OutMlpReferenceIdeal.nD Cert.OutMlpReferenceIdeal.τ).loc Cert.OutMlpReferenceIdeal.main_arg3)
      ∧ r.2.mem ((c.tc : Thread Cert.OutMlpReferenceIdeal.nD Cert.OutMlpReferenceIdeal.τ).loc Cert.OutMlpReferenceIdeal.main_arg4) = m ((c.tc : Thread Cert.OutMlpReferenceIdeal.nD Cert.OutMlpReferenceIdeal.τ).loc Cert.OutMlpReferenceIdeal.main_arg4)
      ∧ r.2.mem ((c.tc : Thread Cert.OutMlpReferenceIdeal.nD Cert.OutMlpReferenceIdeal.τ).loc Cert.OutMlpReferenceIdeal.main_arg5) = m ((c.tc : Thread Cert.OutMlpReferenceIdeal.nD Cert.OutMlpReferenceIdeal.τ).loc Cert.OutMlpReferenceIdeal.main_arg5)
      ∧ r.2.mem ((c.tc : Thread Cert.OutMlpReferenceIdeal.nD Cert.OutMlpReferenceIdeal.τ).loc Cert.OutMlpReferenceIdeal.main_arg6) = m ((c.tc : Thread Cert.OutMlpReferenceIdeal.nD Cert.OutMlpReferenceIdeal.τ).loc Cert.OutMlpReferenceIdeal.main_arg6))
      ∧ r.2.sem = fun _ => 0)

def quiescent_MidMlp [hMidMlp : Cert.MidMlp.Facts] : Prop :=
  ∀ (m : (ℓ : Loc Cert.MidMlp.nD Cert.MidMlp.τ Cert.MidMlp.sig) → Buf (Elt Bits) ℓ) (g : Dev Cert.MidMlp.nD → PrngReg), Pre_MidMlp m →
    θ_run (Cert.MidMlp.defs (F := Bits)) (onTc (τ := Cert.MidMlp.τ) (Cert.MidMlp.main (F := Bits))) ⟨m, fun _ => 0, g⟩ (fun r => (∀ c : Dev Cert.MidMlp.nD,
      r.2.mem ((c.tc : Thread Cert.MidMlp.nD Cert.MidMlp.τ).loc Cert.MidMlp.main_arg0) = m ((c.tc : Thread Cert.MidMlp.nD Cert.MidMlp.τ).loc Cert.MidMlp.main_arg0)
      ∧ r.2.mem ((c.tc : Thread Cert.MidMlp.nD Cert.MidMlp.τ).loc Cert.MidMlp.main_arg1) = m ((c.tc : Thread Cert.MidMlp.nD Cert.MidMlp.τ).loc Cert.MidMlp.main_arg1)
      ∧ r.2.mem ((c.tc : Thread Cert.MidMlp.nD Cert.MidMlp.τ).loc Cert.MidMlp.main_arg2) = m ((c.tc : Thread Cert.MidMlp.nD Cert.MidMlp.τ).loc Cert.MidMlp.main_arg2)
      ∧ r.2.mem ((c.tc : Thread Cert.MidMlp.nD Cert.MidMlp.τ).loc Cert.MidMlp.main_arg3) = m ((c.tc : Thread Cert.MidMlp.nD Cert.MidMlp.τ).loc Cert.MidMlp.main_arg3)
      ∧ r.2.mem ((c.tc : Thread Cert.MidMlp.nD Cert.MidMlp.τ).loc Cert.MidMlp.main_arg4) = m ((c.tc : Thread Cert.MidMlp.nD Cert.MidMlp.τ).loc Cert.MidMlp.main_arg4)
      ∧ r.2.mem ((c.tc : Thread Cert.MidMlp.nD Cert.MidMlp.τ).loc Cert.MidMlp.main_arg5) = m ((c.tc : Thread Cert.MidMlp.nD Cert.MidMlp.τ).loc Cert.MidMlp.main_arg5)
      ∧ r.2.mem ((c.tc : Thread Cert.MidMlp.nD Cert.MidMlp.τ).loc Cert.MidMlp.main_arg6) = m ((c.tc : Thread Cert.MidMlp.nD Cert.MidMlp.τ).loc Cert.MidMlp.main_arg6))
      ∧ r.2.sem = fun _ => 0)

def quiescent_MidMlpIdeal [hMidMlpIdeal : Cert.MidMlpIdeal.Facts] : Prop :=
  ∀ (m : (ℓ : Loc Cert.MidMlpIdeal.nD Cert.MidMlpIdeal.τ Cert.MidMlpIdeal.sig) → Buf (Elt Ideal) ℓ) (g : Dev Cert.MidMlpIdeal.nD → PrngReg), Pre_MidMlpIdeal m →
    θ_run (Cert.MidMlpIdeal.defs (F := Ideal)) (onTc (τ := Cert.MidMlpIdeal.τ) (Cert.MidMlpIdeal.main (F := Ideal))) ⟨m, fun _ => 0, g⟩ (fun r => (∀ c : Dev Cert.MidMlpIdeal.nD,
      r.2.mem ((c.tc : Thread Cert.MidMlpIdeal.nD Cert.MidMlpIdeal.τ).loc Cert.MidMlpIdeal.main_arg0) = m ((c.tc : Thread Cert.MidMlpIdeal.nD Cert.MidMlpIdeal.τ).loc Cert.MidMlpIdeal.main_arg0)
      ∧ r.2.mem ((c.tc : Thread Cert.MidMlpIdeal.nD Cert.MidMlpIdeal.τ).loc Cert.MidMlpIdeal.main_arg1) = m ((c.tc : Thread Cert.MidMlpIdeal.nD Cert.MidMlpIdeal.τ).loc Cert.MidMlpIdeal.main_arg1)
      ∧ r.2.mem ((c.tc : Thread Cert.MidMlpIdeal.nD Cert.MidMlpIdeal.τ).loc Cert.MidMlpIdeal.main_arg2) = m ((c.tc : Thread Cert.MidMlpIdeal.nD Cert.MidMlpIdeal.τ).loc Cert.MidMlpIdeal.main_arg2)
      ∧ r.2.mem ((c.tc : Thread Cert.MidMlpIdeal.nD Cert.MidMlpIdeal.τ).loc Cert.MidMlpIdeal.main_arg3) = m ((c.tc : Thread Cert.MidMlpIdeal.nD Cert.MidMlpIdeal.τ).loc Cert.MidMlpIdeal.main_arg3)
      ∧ r.2.mem ((c.tc : Thread Cert.MidMlpIdeal.nD Cert.MidMlpIdeal.τ).loc Cert.MidMlpIdeal.main_arg4) = m ((c.tc : Thread Cert.MidMlpIdeal.nD Cert.MidMlpIdeal.τ).loc Cert.MidMlpIdeal.main_arg4)
      ∧ r.2.mem ((c.tc : Thread Cert.MidMlpIdeal.nD Cert.MidMlpIdeal.τ).loc Cert.MidMlpIdeal.main_arg5) = m ((c.tc : Thread Cert.MidMlpIdeal.nD Cert.MidMlpIdeal.τ).loc Cert.MidMlpIdeal.main_arg5)
      ∧ r.2.mem ((c.tc : Thread Cert.MidMlpIdeal.nD Cert.MidMlpIdeal.τ).loc Cert.MidMlpIdeal.main_arg6) = m ((c.tc : Thread Cert.MidMlpIdeal.nD Cert.MidMlpIdeal.τ).loc Cert.MidMlpIdeal.main_arg6))
      ∧ r.2.sem = fun _ => 0)

def quiescent_MidMlpReferenceIdeal [hMidMlpReferenceIdeal : Cert.MidMlpReferenceIdeal.Facts] : Prop :=
  ∀ (m : (ℓ : Loc Cert.MidMlpReferenceIdeal.nD Cert.MidMlpReferenceIdeal.τ Cert.MidMlpReferenceIdeal.sig) → Buf (Elt Ideal) ℓ) (g : Dev Cert.MidMlpReferenceIdeal.nD → PrngReg), Pre_MidMlpReferenceIdeal m →
    θ_run (Cert.MidMlpReferenceIdeal.defs (F := Ideal)) (onTc (τ := Cert.MidMlpReferenceIdeal.τ) (Cert.MidMlpReferenceIdeal.main (F := Ideal))) ⟨m, fun _ => 0, g⟩ (fun r => (∀ c : Dev Cert.MidMlpReferenceIdeal.nD,
      r.2.mem ((c.tc : Thread Cert.MidMlpReferenceIdeal.nD Cert.MidMlpReferenceIdeal.τ).loc Cert.MidMlpReferenceIdeal.main_arg0) = m ((c.tc : Thread Cert.MidMlpReferenceIdeal.nD Cert.MidMlpReferenceIdeal.τ).loc Cert.MidMlpReferenceIdeal.main_arg0)
      ∧ r.2.mem ((c.tc : Thread Cert.MidMlpReferenceIdeal.nD Cert.MidMlpReferenceIdeal.τ).loc Cert.MidMlpReferenceIdeal.main_arg1) = m ((c.tc : Thread Cert.MidMlpReferenceIdeal.nD Cert.MidMlpReferenceIdeal.τ).loc Cert.MidMlpReferenceIdeal.main_arg1)
      ∧ r.2.mem ((c.tc : Thread Cert.MidMlpReferenceIdeal.nD Cert.MidMlpReferenceIdeal.τ).loc Cert.MidMlpReferenceIdeal.main_arg2) = m ((c.tc : Thread Cert.MidMlpReferenceIdeal.nD Cert.MidMlpReferenceIdeal.τ).loc Cert.MidMlpReferenceIdeal.main_arg2)
      ∧ r.2.mem ((c.tc : Thread Cert.MidMlpReferenceIdeal.nD Cert.MidMlpReferenceIdeal.τ).loc Cert.MidMlpReferenceIdeal.main_arg3) = m ((c.tc : Thread Cert.MidMlpReferenceIdeal.nD Cert.MidMlpReferenceIdeal.τ).loc Cert.MidMlpReferenceIdeal.main_arg3)
      ∧ r.2.mem ((c.tc : Thread Cert.MidMlpReferenceIdeal.nD Cert.MidMlpReferenceIdeal.τ).loc Cert.MidMlpReferenceIdeal.main_arg4) = m ((c.tc : Thread Cert.MidMlpReferenceIdeal.nD Cert.MidMlpReferenceIdeal.τ).loc Cert.MidMlpReferenceIdeal.main_arg4)
      ∧ r.2.mem ((c.tc : Thread Cert.MidMlpReferenceIdeal.nD Cert.MidMlpReferenceIdeal.τ).loc Cert.MidMlpReferenceIdeal.main_arg5) = m ((c.tc : Thread Cert.MidMlpReferenceIdeal.nD Cert.MidMlpReferenceIdeal.τ).loc Cert.MidMlpReferenceIdeal.main_arg5)
      ∧ r.2.mem ((c.tc : Thread Cert.MidMlpReferenceIdeal.nD Cert.MidMlpReferenceIdeal.τ).loc Cert.MidMlpReferenceIdeal.main_arg6) = m ((c.tc : Thread Cert.MidMlpReferenceIdeal.nD Cert.MidMlpReferenceIdeal.τ).loc Cert.MidMlpReferenceIdeal.main_arg6))
      ∧ r.2.sem = fun _ => 0)

def quiescent_QkvProj [hQkvProj : Cert.QkvProj.Facts] : Prop :=
  ∀ (m : (ℓ : Loc Cert.QkvProj.nD Cert.QkvProj.τ Cert.QkvProj.sig) → Buf (Elt Bits) ℓ) (g : Dev Cert.QkvProj.nD → PrngReg), Pre_QkvProj m →
    θ_run (Cert.QkvProj.defs (F := Bits)) (onTc (τ := Cert.QkvProj.τ) (Cert.QkvProj.main (F := Bits))) ⟨m, fun _ => 0, g⟩ (fun r => (∀ c : Dev Cert.QkvProj.nD,
      r.2.mem ((c.tc : Thread Cert.QkvProj.nD Cert.QkvProj.τ).loc Cert.QkvProj.main_arg0) = m ((c.tc : Thread Cert.QkvProj.nD Cert.QkvProj.τ).loc Cert.QkvProj.main_arg0)
      ∧ r.2.mem ((c.tc : Thread Cert.QkvProj.nD Cert.QkvProj.τ).loc Cert.QkvProj.main_arg1) = m ((c.tc : Thread Cert.QkvProj.nD Cert.QkvProj.τ).loc Cert.QkvProj.main_arg1)
      ∧ r.2.mem ((c.tc : Thread Cert.QkvProj.nD Cert.QkvProj.τ).loc Cert.QkvProj.main_arg2) = m ((c.tc : Thread Cert.QkvProj.nD Cert.QkvProj.τ).loc Cert.QkvProj.main_arg2))
      ∧ r.2.sem = fun _ => 0)

def quiescent_QkvProjIdeal [hQkvProjIdeal : Cert.QkvProjIdeal.Facts] : Prop :=
  ∀ (m : (ℓ : Loc Cert.QkvProjIdeal.nD Cert.QkvProjIdeal.τ Cert.QkvProjIdeal.sig) → Buf (Elt Ideal) ℓ) (g : Dev Cert.QkvProjIdeal.nD → PrngReg), Pre_QkvProjIdeal m →
    θ_run (Cert.QkvProjIdeal.defs (F := Ideal)) (onTc (τ := Cert.QkvProjIdeal.τ) (Cert.QkvProjIdeal.main (F := Ideal))) ⟨m, fun _ => 0, g⟩ (fun r => (∀ c : Dev Cert.QkvProjIdeal.nD,
      r.2.mem ((c.tc : Thread Cert.QkvProjIdeal.nD Cert.QkvProjIdeal.τ).loc Cert.QkvProjIdeal.main_arg0) = m ((c.tc : Thread Cert.QkvProjIdeal.nD Cert.QkvProjIdeal.τ).loc Cert.QkvProjIdeal.main_arg0)
      ∧ r.2.mem ((c.tc : Thread Cert.QkvProjIdeal.nD Cert.QkvProjIdeal.τ).loc Cert.QkvProjIdeal.main_arg1) = m ((c.tc : Thread Cert.QkvProjIdeal.nD Cert.QkvProjIdeal.τ).loc Cert.QkvProjIdeal.main_arg1)
      ∧ r.2.mem ((c.tc : Thread Cert.QkvProjIdeal.nD Cert.QkvProjIdeal.τ).loc Cert.QkvProjIdeal.main_arg2) = m ((c.tc : Thread Cert.QkvProjIdeal.nD Cert.QkvProjIdeal.τ).loc Cert.QkvProjIdeal.main_arg2))
      ∧ r.2.sem = fun _ => 0)

def quiescent_QkvProjReferenceIdeal [hQkvProjReferenceIdeal : Cert.QkvProjReferenceIdeal.Facts] : Prop :=
  ∀ (m : (ℓ : Loc Cert.QkvProjReferenceIdeal.nD Cert.QkvProjReferenceIdeal.τ Cert.QkvProjReferenceIdeal.sig) → Buf (Elt Ideal) ℓ) (g : Dev Cert.QkvProjReferenceIdeal.nD → PrngReg), Pre_QkvProjReferenceIdeal m →
    θ_run (Cert.QkvProjReferenceIdeal.defs (F := Ideal)) (onTc (τ := Cert.QkvProjReferenceIdeal.τ) (Cert.QkvProjReferenceIdeal.main (F := Ideal))) ⟨m, fun _ => 0, g⟩ (fun r => (∀ c : Dev Cert.QkvProjReferenceIdeal.nD,
      r.2.mem ((c.tc : Thread Cert.QkvProjReferenceIdeal.nD Cert.QkvProjReferenceIdeal.τ).loc Cert.QkvProjReferenceIdeal.main_arg0) = m ((c.tc : Thread Cert.QkvProjReferenceIdeal.nD Cert.QkvProjReferenceIdeal.τ).loc Cert.QkvProjReferenceIdeal.main_arg0)
      ∧ r.2.mem ((c.tc : Thread Cert.QkvProjReferenceIdeal.nD Cert.QkvProjReferenceIdeal.τ).loc Cert.QkvProjReferenceIdeal.main_arg1) = m ((c.tc : Thread Cert.QkvProjReferenceIdeal.nD Cert.QkvProjReferenceIdeal.τ).loc Cert.QkvProjReferenceIdeal.main_arg1)
      ∧ r.2.mem ((c.tc : Thread Cert.QkvProjReferenceIdeal.nD Cert.QkvProjReferenceIdeal.τ).loc Cert.QkvProjReferenceIdeal.main_arg2) = m ((c.tc : Thread Cert.QkvProjReferenceIdeal.nD Cert.QkvProjReferenceIdeal.τ).loc Cert.QkvProjReferenceIdeal.main_arg2))
      ∧ r.2.sem = fun _ => 0)

def quiescent_GdnProj [hGdnProj : Cert.GdnProj.Facts] : Prop :=
  ∀ (m : (ℓ : Loc Cert.GdnProj.nD Cert.GdnProj.τ Cert.GdnProj.sig) → Buf (Elt Bits) ℓ) (g : Dev Cert.GdnProj.nD → PrngReg), Pre_GdnProj m →
    θ_run (Cert.GdnProj.defs (F := Bits)) (onTc (τ := Cert.GdnProj.τ) (Cert.GdnProj.main (F := Bits))) ⟨m, fun _ => 0, g⟩ (fun r => (∀ c : Dev Cert.GdnProj.nD,
      r.2.mem ((c.tc : Thread Cert.GdnProj.nD Cert.GdnProj.τ).loc Cert.GdnProj.main_arg0) = m ((c.tc : Thread Cert.GdnProj.nD Cert.GdnProj.τ).loc Cert.GdnProj.main_arg0)
      ∧ r.2.mem ((c.tc : Thread Cert.GdnProj.nD Cert.GdnProj.τ).loc Cert.GdnProj.main_arg1) = m ((c.tc : Thread Cert.GdnProj.nD Cert.GdnProj.τ).loc Cert.GdnProj.main_arg1)
      ∧ r.2.mem ((c.tc : Thread Cert.GdnProj.nD Cert.GdnProj.τ).loc Cert.GdnProj.main_arg2) = m ((c.tc : Thread Cert.GdnProj.nD Cert.GdnProj.τ).loc Cert.GdnProj.main_arg2)
      ∧ r.2.mem ((c.tc : Thread Cert.GdnProj.nD Cert.GdnProj.τ).loc Cert.GdnProj.main_arg3) = m ((c.tc : Thread Cert.GdnProj.nD Cert.GdnProj.τ).loc Cert.GdnProj.main_arg3))
      ∧ r.2.sem = fun _ => 0)

def quiescent_GdnProjIdeal [hGdnProjIdeal : Cert.GdnProjIdeal.Facts] : Prop :=
  ∀ (m : (ℓ : Loc Cert.GdnProjIdeal.nD Cert.GdnProjIdeal.τ Cert.GdnProjIdeal.sig) → Buf (Elt Ideal) ℓ) (g : Dev Cert.GdnProjIdeal.nD → PrngReg), Pre_GdnProjIdeal m →
    θ_run (Cert.GdnProjIdeal.defs (F := Ideal)) (onTc (τ := Cert.GdnProjIdeal.τ) (Cert.GdnProjIdeal.main (F := Ideal))) ⟨m, fun _ => 0, g⟩ (fun r => (∀ c : Dev Cert.GdnProjIdeal.nD,
      r.2.mem ((c.tc : Thread Cert.GdnProjIdeal.nD Cert.GdnProjIdeal.τ).loc Cert.GdnProjIdeal.main_arg0) = m ((c.tc : Thread Cert.GdnProjIdeal.nD Cert.GdnProjIdeal.τ).loc Cert.GdnProjIdeal.main_arg0)
      ∧ r.2.mem ((c.tc : Thread Cert.GdnProjIdeal.nD Cert.GdnProjIdeal.τ).loc Cert.GdnProjIdeal.main_arg1) = m ((c.tc : Thread Cert.GdnProjIdeal.nD Cert.GdnProjIdeal.τ).loc Cert.GdnProjIdeal.main_arg1)
      ∧ r.2.mem ((c.tc : Thread Cert.GdnProjIdeal.nD Cert.GdnProjIdeal.τ).loc Cert.GdnProjIdeal.main_arg2) = m ((c.tc : Thread Cert.GdnProjIdeal.nD Cert.GdnProjIdeal.τ).loc Cert.GdnProjIdeal.main_arg2)
      ∧ r.2.mem ((c.tc : Thread Cert.GdnProjIdeal.nD Cert.GdnProjIdeal.τ).loc Cert.GdnProjIdeal.main_arg3) = m ((c.tc : Thread Cert.GdnProjIdeal.nD Cert.GdnProjIdeal.τ).loc Cert.GdnProjIdeal.main_arg3))
      ∧ r.2.sem = fun _ => 0)

def quiescent_GdnProjReferenceIdeal [hGdnProjReferenceIdeal : Cert.GdnProjReferenceIdeal.Facts] : Prop :=
  ∀ (m : (ℓ : Loc Cert.GdnProjReferenceIdeal.nD Cert.GdnProjReferenceIdeal.τ Cert.GdnProjReferenceIdeal.sig) → Buf (Elt Ideal) ℓ) (g : Dev Cert.GdnProjReferenceIdeal.nD → PrngReg), Pre_GdnProjReferenceIdeal m →
    θ_run (Cert.GdnProjReferenceIdeal.defs (F := Ideal)) (onTc (τ := Cert.GdnProjReferenceIdeal.τ) (Cert.GdnProjReferenceIdeal.main (F := Ideal))) ⟨m, fun _ => 0, g⟩ (fun r => (∀ c : Dev Cert.GdnProjReferenceIdeal.nD,
      r.2.mem ((c.tc : Thread Cert.GdnProjReferenceIdeal.nD Cert.GdnProjReferenceIdeal.τ).loc Cert.GdnProjReferenceIdeal.main_arg0) = m ((c.tc : Thread Cert.GdnProjReferenceIdeal.nD Cert.GdnProjReferenceIdeal.τ).loc Cert.GdnProjReferenceIdeal.main_arg0)
      ∧ r.2.mem ((c.tc : Thread Cert.GdnProjReferenceIdeal.nD Cert.GdnProjReferenceIdeal.τ).loc Cert.GdnProjReferenceIdeal.main_arg1) = m ((c.tc : Thread Cert.GdnProjReferenceIdeal.nD Cert.GdnProjReferenceIdeal.τ).loc Cert.GdnProjReferenceIdeal.main_arg1)
      ∧ r.2.mem ((c.tc : Thread Cert.GdnProjReferenceIdeal.nD Cert.GdnProjReferenceIdeal.τ).loc Cert.GdnProjReferenceIdeal.main_arg2) = m ((c.tc : Thread Cert.GdnProjReferenceIdeal.nD Cert.GdnProjReferenceIdeal.τ).loc Cert.GdnProjReferenceIdeal.main_arg2)
      ∧ r.2.mem ((c.tc : Thread Cert.GdnProjReferenceIdeal.nD Cert.GdnProjReferenceIdeal.τ).loc Cert.GdnProjReferenceIdeal.main_arg3) = m ((c.tc : Thread Cert.GdnProjReferenceIdeal.nD Cert.GdnProjReferenceIdeal.τ).loc Cert.GdnProjReferenceIdeal.main_arg3))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_OutMlp_OutMlpIdeal : Prop :=
  True

def algebraic_OutMlpIdeal_OutMlpReferenceIdeal [hOutMlpIdeal : Cert.OutMlpIdeal.Facts] [hOutMlpReferenceIdeal : Cert.OutMlpReferenceIdeal.Facts] : Prop :=
  ∀ (m : (ℓ : Loc Cert.OutMlpIdeal.nD Cert.OutMlpIdeal.τ Cert.OutMlpIdeal.sig) → Buf (Elt Ideal) ℓ) (g : Dev Cert.OutMlpIdeal.nD → PrngReg)
    (m' : (ℓ : Loc Cert.OutMlpReferenceIdeal.nD Cert.OutMlpReferenceIdeal.τ Cert.OutMlpReferenceIdeal.sig) → Buf (Elt Ideal) ℓ) (g' : Dev Cert.OutMlpReferenceIdeal.nD → PrngReg), Pre_OutMlpIdeal m →
    (∀ c : Dev Cert.OutMlpIdeal.nD,
      m' ((c.tc : Thread Cert.OutMlpReferenceIdeal.nD Cert.OutMlpReferenceIdeal.τ).loc Cert.OutMlpReferenceIdeal.main_arg0) = m ((c.tc : Thread Cert.OutMlpIdeal.nD Cert.OutMlpIdeal.τ).loc Cert.OutMlpIdeal.main_arg0)
      ∧ m' ((c.tc : Thread Cert.OutMlpReferenceIdeal.nD Cert.OutMlpReferenceIdeal.τ).loc Cert.OutMlpReferenceIdeal.main_arg1) = m ((c.tc : Thread Cert.OutMlpIdeal.nD Cert.OutMlpIdeal.τ).loc Cert.OutMlpIdeal.main_arg1)
      ∧ m' ((c.tc : Thread Cert.OutMlpReferenceIdeal.nD Cert.OutMlpReferenceIdeal.τ).loc Cert.OutMlpReferenceIdeal.main_arg2) = m ((c.tc : Thread Cert.OutMlpIdeal.nD Cert.OutMlpIdeal.τ).loc Cert.OutMlpIdeal.main_arg2)
      ∧ m' ((c.tc : Thread Cert.OutMlpReferenceIdeal.nD Cert.OutMlpReferenceIdeal.τ).loc Cert.OutMlpReferenceIdeal.main_arg3) = m ((c.tc : Thread Cert.OutMlpIdeal.nD Cert.OutMlpIdeal.τ).loc Cert.OutMlpIdeal.main_arg3)
      ∧ m' ((c.tc : Thread Cert.OutMlpReferenceIdeal.nD Cert.OutMlpReferenceIdeal.τ).loc Cert.OutMlpReferenceIdeal.main_arg4) = m ((c.tc : Thread Cert.OutMlpIdeal.nD Cert.OutMlpIdeal.τ).loc Cert.OutMlpIdeal.main_arg4)
      ∧ m' ((c.tc : Thread Cert.OutMlpReferenceIdeal.nD Cert.OutMlpReferenceIdeal.τ).loc Cert.OutMlpReferenceIdeal.main_arg5) = m ((c.tc : Thread Cert.OutMlpIdeal.nD Cert.OutMlpIdeal.τ).loc Cert.OutMlpIdeal.main_arg5)
      ∧ m' ((c.tc : Thread Cert.OutMlpReferenceIdeal.nD Cert.OutMlpReferenceIdeal.τ).loc Cert.OutMlpReferenceIdeal.main_arg6) = m ((c.tc : Thread Cert.OutMlpIdeal.nD Cert.OutMlpIdeal.τ).loc Cert.OutMlpIdeal.main_arg6)) →
    ∃ (v0 : (c : Dev Cert.OutMlpIdeal.nD) → Buf (Elt Ideal) ((c.tc : Thread Cert.OutMlpIdeal.nD Cert.OutMlpIdeal.τ).loc Cert.OutMlpIdeal.main_v0)),
      θ_run (Cert.OutMlpIdeal.defs (F := Ideal)) (onTc (τ := Cert.OutMlpIdeal.τ) (Cert.OutMlpIdeal.main (F := Ideal))) ⟨m, fun _ => 0, g⟩ (fun r => ∀ c : Dev Cert.OutMlpIdeal.nD,
          r.2.mem ((c.tc : Thread Cert.OutMlpIdeal.nD Cert.OutMlpIdeal.τ).loc Cert.OutMlpIdeal.main_v0) = v0 c
          ∧ r.2.mem ((c.tc : Thread Cert.OutMlpIdeal.nD Cert.OutMlpIdeal.τ).loc Cert.OutMlpIdeal.main_arg0) = m ((c.tc : Thread Cert.OutMlpIdeal.nD Cert.OutMlpIdeal.τ).loc Cert.OutMlpIdeal.main_arg0)
          ∧ r.2.mem ((c.tc : Thread Cert.OutMlpIdeal.nD Cert.OutMlpIdeal.τ).loc Cert.OutMlpIdeal.main_arg1) = m ((c.tc : Thread Cert.OutMlpIdeal.nD Cert.OutMlpIdeal.τ).loc Cert.OutMlpIdeal.main_arg1)
          ∧ r.2.mem ((c.tc : Thread Cert.OutMlpIdeal.nD Cert.OutMlpIdeal.τ).loc Cert.OutMlpIdeal.main_arg2) = m ((c.tc : Thread Cert.OutMlpIdeal.nD Cert.OutMlpIdeal.τ).loc Cert.OutMlpIdeal.main_arg2)
          ∧ r.2.mem ((c.tc : Thread Cert.OutMlpIdeal.nD Cert.OutMlpIdeal.τ).loc Cert.OutMlpIdeal.main_arg3) = m ((c.tc : Thread Cert.OutMlpIdeal.nD Cert.OutMlpIdeal.τ).loc Cert.OutMlpIdeal.main_arg3)
          ∧ r.2.mem ((c.tc : Thread Cert.OutMlpIdeal.nD Cert.OutMlpIdeal.τ).loc Cert.OutMlpIdeal.main_arg4) = m ((c.tc : Thread Cert.OutMlpIdeal.nD Cert.OutMlpIdeal.τ).loc Cert.OutMlpIdeal.main_arg4)
          ∧ r.2.mem ((c.tc : Thread Cert.OutMlpIdeal.nD Cert.OutMlpIdeal.τ).loc Cert.OutMlpIdeal.main_arg5) = m ((c.tc : Thread Cert.OutMlpIdeal.nD Cert.OutMlpIdeal.τ).loc Cert.OutMlpIdeal.main_arg5)
          ∧ r.2.mem ((c.tc : Thread Cert.OutMlpIdeal.nD Cert.OutMlpIdeal.τ).loc Cert.OutMlpIdeal.main_arg6) = m ((c.tc : Thread Cert.OutMlpIdeal.nD Cert.OutMlpIdeal.τ).loc Cert.OutMlpIdeal.main_arg6))
      ∧ θ_run (Cert.OutMlpReferenceIdeal.defs (F := Ideal)) (onTc (τ := Cert.OutMlpReferenceIdeal.τ) (Cert.OutMlpReferenceIdeal.main (F := Ideal))) ⟨m', fun _ => 0, g'⟩ (fun r => ∀ c : Dev Cert.OutMlpReferenceIdeal.nD,
          r.2.mem ((c.tc : Thread Cert.OutMlpReferenceIdeal.nD Cert.OutMlpReferenceIdeal.τ).loc Cert.OutMlpReferenceIdeal.main_v34) = v0 c
          ∧ r.2.mem ((c.tc : Thread Cert.OutMlpReferenceIdeal.nD Cert.OutMlpReferenceIdeal.τ).loc Cert.OutMlpReferenceIdeal.main_arg0) = m' ((c.tc : Thread Cert.OutMlpReferenceIdeal.nD Cert.OutMlpReferenceIdeal.τ).loc Cert.OutMlpReferenceIdeal.main_arg0)
          ∧ r.2.mem ((c.tc : Thread Cert.OutMlpReferenceIdeal.nD Cert.OutMlpReferenceIdeal.τ).loc Cert.OutMlpReferenceIdeal.main_arg1) = m' ((c.tc : Thread Cert.OutMlpReferenceIdeal.nD Cert.OutMlpReferenceIdeal.τ).loc Cert.OutMlpReferenceIdeal.main_arg1)
          ∧ r.2.mem ((c.tc : Thread Cert.OutMlpReferenceIdeal.nD Cert.OutMlpReferenceIdeal.τ).loc Cert.OutMlpReferenceIdeal.main_arg2) = m' ((c.tc : Thread Cert.OutMlpReferenceIdeal.nD Cert.OutMlpReferenceIdeal.τ).loc Cert.OutMlpReferenceIdeal.main_arg2)
          ∧ r.2.mem ((c.tc : Thread Cert.OutMlpReferenceIdeal.nD Cert.OutMlpReferenceIdeal.τ).loc Cert.OutMlpReferenceIdeal.main_arg3) = m' ((c.tc : Thread Cert.OutMlpReferenceIdeal.nD Cert.OutMlpReferenceIdeal.τ).loc Cert.OutMlpReferenceIdeal.main_arg3)
          ∧ r.2.mem ((c.tc : Thread Cert.OutMlpReferenceIdeal.nD Cert.OutMlpReferenceIdeal.τ).loc Cert.OutMlpReferenceIdeal.main_arg4) = m' ((c.tc : Thread Cert.OutMlpReferenceIdeal.nD Cert.OutMlpReferenceIdeal.τ).loc Cert.OutMlpReferenceIdeal.main_arg4)
          ∧ r.2.mem ((c.tc : Thread Cert.OutMlpReferenceIdeal.nD Cert.OutMlpReferenceIdeal.τ).loc Cert.OutMlpReferenceIdeal.main_arg5) = m' ((c.tc : Thread Cert.OutMlpReferenceIdeal.nD Cert.OutMlpReferenceIdeal.τ).loc Cert.OutMlpReferenceIdeal.main_arg5)
          ∧ r.2.mem ((c.tc : Thread Cert.OutMlpReferenceIdeal.nD Cert.OutMlpReferenceIdeal.τ).loc Cert.OutMlpReferenceIdeal.main_arg6) = m' ((c.tc : Thread Cert.OutMlpReferenceIdeal.nD Cert.OutMlpReferenceIdeal.τ).loc Cert.OutMlpReferenceIdeal.main_arg6))

def preserves_MidMlp_MidMlpIdeal : Prop :=
  True

def algebraic_MidMlpIdeal_MidMlpReferenceIdeal [hMidMlpIdeal : Cert.MidMlpIdeal.Facts] [hMidMlpReferenceIdeal : Cert.MidMlpReferenceIdeal.Facts] : Prop :=
  ∀ (m : (ℓ : Loc Cert.MidMlpIdeal.nD Cert.MidMlpIdeal.τ Cert.MidMlpIdeal.sig) → Buf (Elt Ideal) ℓ) (g : Dev Cert.MidMlpIdeal.nD → PrngReg)
    (m' : (ℓ : Loc Cert.MidMlpReferenceIdeal.nD Cert.MidMlpReferenceIdeal.τ Cert.MidMlpReferenceIdeal.sig) → Buf (Elt Ideal) ℓ) (g' : Dev Cert.MidMlpReferenceIdeal.nD → PrngReg), Pre_MidMlpIdeal m →
    (∀ c : Dev Cert.MidMlpIdeal.nD,
      m' ((c.tc : Thread Cert.MidMlpReferenceIdeal.nD Cert.MidMlpReferenceIdeal.τ).loc Cert.MidMlpReferenceIdeal.main_arg0) = m ((c.tc : Thread Cert.MidMlpIdeal.nD Cert.MidMlpIdeal.τ).loc Cert.MidMlpIdeal.main_arg0)
      ∧ m' ((c.tc : Thread Cert.MidMlpReferenceIdeal.nD Cert.MidMlpReferenceIdeal.τ).loc Cert.MidMlpReferenceIdeal.main_arg1) = m ((c.tc : Thread Cert.MidMlpIdeal.nD Cert.MidMlpIdeal.τ).loc Cert.MidMlpIdeal.main_arg1)
      ∧ m' ((c.tc : Thread Cert.MidMlpReferenceIdeal.nD Cert.MidMlpReferenceIdeal.τ).loc Cert.MidMlpReferenceIdeal.main_arg2) = m ((c.tc : Thread Cert.MidMlpIdeal.nD Cert.MidMlpIdeal.τ).loc Cert.MidMlpIdeal.main_arg2)
      ∧ m' ((c.tc : Thread Cert.MidMlpReferenceIdeal.nD Cert.MidMlpReferenceIdeal.τ).loc Cert.MidMlpReferenceIdeal.main_arg3) = m ((c.tc : Thread Cert.MidMlpIdeal.nD Cert.MidMlpIdeal.τ).loc Cert.MidMlpIdeal.main_arg3)
      ∧ m' ((c.tc : Thread Cert.MidMlpReferenceIdeal.nD Cert.MidMlpReferenceIdeal.τ).loc Cert.MidMlpReferenceIdeal.main_arg4) = m ((c.tc : Thread Cert.MidMlpIdeal.nD Cert.MidMlpIdeal.τ).loc Cert.MidMlpIdeal.main_arg4)
      ∧ m' ((c.tc : Thread Cert.MidMlpReferenceIdeal.nD Cert.MidMlpReferenceIdeal.τ).loc Cert.MidMlpReferenceIdeal.main_arg5) = m ((c.tc : Thread Cert.MidMlpIdeal.nD Cert.MidMlpIdeal.τ).loc Cert.MidMlpIdeal.main_arg5)
      ∧ m' ((c.tc : Thread Cert.MidMlpReferenceIdeal.nD Cert.MidMlpReferenceIdeal.τ).loc Cert.MidMlpReferenceIdeal.main_arg6) = m ((c.tc : Thread Cert.MidMlpIdeal.nD Cert.MidMlpIdeal.τ).loc Cert.MidMlpIdeal.main_arg6)) →
    ∃ (v0 : (c : Dev Cert.MidMlpIdeal.nD) → Buf (Elt Ideal) ((c.tc : Thread Cert.MidMlpIdeal.nD Cert.MidMlpIdeal.τ).loc Cert.MidMlpIdeal.main_v0)),
      θ_run (Cert.MidMlpIdeal.defs (F := Ideal)) (onTc (τ := Cert.MidMlpIdeal.τ) (Cert.MidMlpIdeal.main (F := Ideal))) ⟨m, fun _ => 0, g⟩ (fun r => ∀ c : Dev Cert.MidMlpIdeal.nD,
          r.2.mem ((c.tc : Thread Cert.MidMlpIdeal.nD Cert.MidMlpIdeal.τ).loc Cert.MidMlpIdeal.main_v0) = v0 c
          ∧ r.2.mem ((c.tc : Thread Cert.MidMlpIdeal.nD Cert.MidMlpIdeal.τ).loc Cert.MidMlpIdeal.main_arg0) = m ((c.tc : Thread Cert.MidMlpIdeal.nD Cert.MidMlpIdeal.τ).loc Cert.MidMlpIdeal.main_arg0)
          ∧ r.2.mem ((c.tc : Thread Cert.MidMlpIdeal.nD Cert.MidMlpIdeal.τ).loc Cert.MidMlpIdeal.main_arg1) = m ((c.tc : Thread Cert.MidMlpIdeal.nD Cert.MidMlpIdeal.τ).loc Cert.MidMlpIdeal.main_arg1)
          ∧ r.2.mem ((c.tc : Thread Cert.MidMlpIdeal.nD Cert.MidMlpIdeal.τ).loc Cert.MidMlpIdeal.main_arg2) = m ((c.tc : Thread Cert.MidMlpIdeal.nD Cert.MidMlpIdeal.τ).loc Cert.MidMlpIdeal.main_arg2)
          ∧ r.2.mem ((c.tc : Thread Cert.MidMlpIdeal.nD Cert.MidMlpIdeal.τ).loc Cert.MidMlpIdeal.main_arg3) = m ((c.tc : Thread Cert.MidMlpIdeal.nD Cert.MidMlpIdeal.τ).loc Cert.MidMlpIdeal.main_arg3)
          ∧ r.2.mem ((c.tc : Thread Cert.MidMlpIdeal.nD Cert.MidMlpIdeal.τ).loc Cert.MidMlpIdeal.main_arg4) = m ((c.tc : Thread Cert.MidMlpIdeal.nD Cert.MidMlpIdeal.τ).loc Cert.MidMlpIdeal.main_arg4)
          ∧ r.2.mem ((c.tc : Thread Cert.MidMlpIdeal.nD Cert.MidMlpIdeal.τ).loc Cert.MidMlpIdeal.main_arg5) = m ((c.tc : Thread Cert.MidMlpIdeal.nD Cert.MidMlpIdeal.τ).loc Cert.MidMlpIdeal.main_arg5)
          ∧ r.2.mem ((c.tc : Thread Cert.MidMlpIdeal.nD Cert.MidMlpIdeal.τ).loc Cert.MidMlpIdeal.main_arg6) = m ((c.tc : Thread Cert.MidMlpIdeal.nD Cert.MidMlpIdeal.τ).loc Cert.MidMlpIdeal.main_arg6))
      ∧ θ_run (Cert.MidMlpReferenceIdeal.defs (F := Ideal)) (onTc (τ := Cert.MidMlpReferenceIdeal.τ) (Cert.MidMlpReferenceIdeal.main (F := Ideal))) ⟨m', fun _ => 0, g'⟩ (fun r => ∀ c : Dev Cert.MidMlpReferenceIdeal.nD,
          r.2.mem ((c.tc : Thread Cert.MidMlpReferenceIdeal.nD Cert.MidMlpReferenceIdeal.τ).loc Cert.MidMlpReferenceIdeal.main_v22) = v0 c
          ∧ r.2.mem ((c.tc : Thread Cert.MidMlpReferenceIdeal.nD Cert.MidMlpReferenceIdeal.τ).loc Cert.MidMlpReferenceIdeal.main_arg0) = m' ((c.tc : Thread Cert.MidMlpReferenceIdeal.nD Cert.MidMlpReferenceIdeal.τ).loc Cert.MidMlpReferenceIdeal.main_arg0)
          ∧ r.2.mem ((c.tc : Thread Cert.MidMlpReferenceIdeal.nD Cert.MidMlpReferenceIdeal.τ).loc Cert.MidMlpReferenceIdeal.main_arg1) = m' ((c.tc : Thread Cert.MidMlpReferenceIdeal.nD Cert.MidMlpReferenceIdeal.τ).loc Cert.MidMlpReferenceIdeal.main_arg1)
          ∧ r.2.mem ((c.tc : Thread Cert.MidMlpReferenceIdeal.nD Cert.MidMlpReferenceIdeal.τ).loc Cert.MidMlpReferenceIdeal.main_arg2) = m' ((c.tc : Thread Cert.MidMlpReferenceIdeal.nD Cert.MidMlpReferenceIdeal.τ).loc Cert.MidMlpReferenceIdeal.main_arg2)
          ∧ r.2.mem ((c.tc : Thread Cert.MidMlpReferenceIdeal.nD Cert.MidMlpReferenceIdeal.τ).loc Cert.MidMlpReferenceIdeal.main_arg3) = m' ((c.tc : Thread Cert.MidMlpReferenceIdeal.nD Cert.MidMlpReferenceIdeal.τ).loc Cert.MidMlpReferenceIdeal.main_arg3)
          ∧ r.2.mem ((c.tc : Thread Cert.MidMlpReferenceIdeal.nD Cert.MidMlpReferenceIdeal.τ).loc Cert.MidMlpReferenceIdeal.main_arg4) = m' ((c.tc : Thread Cert.MidMlpReferenceIdeal.nD Cert.MidMlpReferenceIdeal.τ).loc Cert.MidMlpReferenceIdeal.main_arg4)
          ∧ r.2.mem ((c.tc : Thread Cert.MidMlpReferenceIdeal.nD Cert.MidMlpReferenceIdeal.τ).loc Cert.MidMlpReferenceIdeal.main_arg5) = m' ((c.tc : Thread Cert.MidMlpReferenceIdeal.nD Cert.MidMlpReferenceIdeal.τ).loc Cert.MidMlpReferenceIdeal.main_arg5)
          ∧ r.2.mem ((c.tc : Thread Cert.MidMlpReferenceIdeal.nD Cert.MidMlpReferenceIdeal.τ).loc Cert.MidMlpReferenceIdeal.main_arg6) = m' ((c.tc : Thread Cert.MidMlpReferenceIdeal.nD Cert.MidMlpReferenceIdeal.τ).loc Cert.MidMlpReferenceIdeal.main_arg6))

def preserves_QkvProj_QkvProjIdeal : Prop :=
  True

def algebraic_QkvProjIdeal_QkvProjReferenceIdeal [hQkvProjIdeal : Cert.QkvProjIdeal.Facts] [hQkvProjReferenceIdeal : Cert.QkvProjReferenceIdeal.Facts] : Prop :=
  ∀ (m : (ℓ : Loc Cert.QkvProjIdeal.nD Cert.QkvProjIdeal.τ Cert.QkvProjIdeal.sig) → Buf (Elt Ideal) ℓ) (g : Dev Cert.QkvProjIdeal.nD → PrngReg)
    (m' : (ℓ : Loc Cert.QkvProjReferenceIdeal.nD Cert.QkvProjReferenceIdeal.τ Cert.QkvProjReferenceIdeal.sig) → Buf (Elt Ideal) ℓ) (g' : Dev Cert.QkvProjReferenceIdeal.nD → PrngReg), Pre_QkvProjIdeal m →
    (∀ c : Dev Cert.QkvProjIdeal.nD,
      m' ((c.tc : Thread Cert.QkvProjReferenceIdeal.nD Cert.QkvProjReferenceIdeal.τ).loc Cert.QkvProjReferenceIdeal.main_arg0) = m ((c.tc : Thread Cert.QkvProjIdeal.nD Cert.QkvProjIdeal.τ).loc Cert.QkvProjIdeal.main_arg0)
      ∧ m' ((c.tc : Thread Cert.QkvProjReferenceIdeal.nD Cert.QkvProjReferenceIdeal.τ).loc Cert.QkvProjReferenceIdeal.main_arg1) = m ((c.tc : Thread Cert.QkvProjIdeal.nD Cert.QkvProjIdeal.τ).loc Cert.QkvProjIdeal.main_arg1)
      ∧ m' ((c.tc : Thread Cert.QkvProjReferenceIdeal.nD Cert.QkvProjReferenceIdeal.τ).loc Cert.QkvProjReferenceIdeal.main_arg2) = m ((c.tc : Thread Cert.QkvProjIdeal.nD Cert.QkvProjIdeal.τ).loc Cert.QkvProjIdeal.main_arg2)) →
    ∃ (v0 : (c : Dev Cert.QkvProjIdeal.nD) → Buf (Elt Ideal) ((c.tc : Thread Cert.QkvProjIdeal.nD Cert.QkvProjIdeal.τ).loc Cert.QkvProjIdeal.main_v0)),
      θ_run (Cert.QkvProjIdeal.defs (F := Ideal)) (onTc (τ := Cert.QkvProjIdeal.τ) (Cert.QkvProjIdeal.main (F := Ideal))) ⟨m, fun _ => 0, g⟩ (fun r => ∀ c : Dev Cert.QkvProjIdeal.nD,
          r.2.mem ((c.tc : Thread Cert.QkvProjIdeal.nD Cert.QkvProjIdeal.τ).loc Cert.QkvProjIdeal.main_v0) = v0 c
          ∧ r.2.mem ((c.tc : Thread Cert.QkvProjIdeal.nD Cert.QkvProjIdeal.τ).loc Cert.QkvProjIdeal.main_arg0) = m ((c.tc : Thread Cert.QkvProjIdeal.nD Cert.QkvProjIdeal.τ).loc Cert.QkvProjIdeal.main_arg0)
          ∧ r.2.mem ((c.tc : Thread Cert.QkvProjIdeal.nD Cert.QkvProjIdeal.τ).loc Cert.QkvProjIdeal.main_arg1) = m ((c.tc : Thread Cert.QkvProjIdeal.nD Cert.QkvProjIdeal.τ).loc Cert.QkvProjIdeal.main_arg1)
          ∧ r.2.mem ((c.tc : Thread Cert.QkvProjIdeal.nD Cert.QkvProjIdeal.τ).loc Cert.QkvProjIdeal.main_arg2) = m ((c.tc : Thread Cert.QkvProjIdeal.nD Cert.QkvProjIdeal.τ).loc Cert.QkvProjIdeal.main_arg2))
      ∧ θ_run (Cert.QkvProjReferenceIdeal.defs (F := Ideal)) (onTc (τ := Cert.QkvProjReferenceIdeal.τ) (Cert.QkvProjReferenceIdeal.main (F := Ideal))) ⟨m', fun _ => 0, g'⟩ (fun r => ∀ c : Dev Cert.QkvProjReferenceIdeal.nD,
          r.2.mem ((c.tc : Thread Cert.QkvProjReferenceIdeal.nD Cert.QkvProjReferenceIdeal.τ).loc Cert.QkvProjReferenceIdeal.main_v14) = v0 c
          ∧ r.2.mem ((c.tc : Thread Cert.QkvProjReferenceIdeal.nD Cert.QkvProjReferenceIdeal.τ).loc Cert.QkvProjReferenceIdeal.main_arg0) = m' ((c.tc : Thread Cert.QkvProjReferenceIdeal.nD Cert.QkvProjReferenceIdeal.τ).loc Cert.QkvProjReferenceIdeal.main_arg0)
          ∧ r.2.mem ((c.tc : Thread Cert.QkvProjReferenceIdeal.nD Cert.QkvProjReferenceIdeal.τ).loc Cert.QkvProjReferenceIdeal.main_arg1) = m' ((c.tc : Thread Cert.QkvProjReferenceIdeal.nD Cert.QkvProjReferenceIdeal.τ).loc Cert.QkvProjReferenceIdeal.main_arg1)
          ∧ r.2.mem ((c.tc : Thread Cert.QkvProjReferenceIdeal.nD Cert.QkvProjReferenceIdeal.τ).loc Cert.QkvProjReferenceIdeal.main_arg2) = m' ((c.tc : Thread Cert.QkvProjReferenceIdeal.nD Cert.QkvProjReferenceIdeal.τ).loc Cert.QkvProjReferenceIdeal.main_arg2))

def preserves_GdnProj_GdnProjIdeal : Prop :=
  True

def algebraic_GdnProjIdeal_GdnProjReferenceIdeal [hGdnProjIdeal : Cert.GdnProjIdeal.Facts] [hGdnProjReferenceIdeal : Cert.GdnProjReferenceIdeal.Facts] : Prop :=
  ∀ (m : (ℓ : Loc Cert.GdnProjIdeal.nD Cert.GdnProjIdeal.τ Cert.GdnProjIdeal.sig) → Buf (Elt Ideal) ℓ) (g : Dev Cert.GdnProjIdeal.nD → PrngReg)
    (m' : (ℓ : Loc Cert.GdnProjReferenceIdeal.nD Cert.GdnProjReferenceIdeal.τ Cert.GdnProjReferenceIdeal.sig) → Buf (Elt Ideal) ℓ) (g' : Dev Cert.GdnProjReferenceIdeal.nD → PrngReg), Pre_GdnProjIdeal m →
    (∀ c : Dev Cert.GdnProjIdeal.nD,
      m' ((c.tc : Thread Cert.GdnProjReferenceIdeal.nD Cert.GdnProjReferenceIdeal.τ).loc Cert.GdnProjReferenceIdeal.main_arg0) = m ((c.tc : Thread Cert.GdnProjIdeal.nD Cert.GdnProjIdeal.τ).loc Cert.GdnProjIdeal.main_arg0)
      ∧ m' ((c.tc : Thread Cert.GdnProjReferenceIdeal.nD Cert.GdnProjReferenceIdeal.τ).loc Cert.GdnProjReferenceIdeal.main_arg1) = m ((c.tc : Thread Cert.GdnProjIdeal.nD Cert.GdnProjIdeal.τ).loc Cert.GdnProjIdeal.main_arg1)
      ∧ m' ((c.tc : Thread Cert.GdnProjReferenceIdeal.nD Cert.GdnProjReferenceIdeal.τ).loc Cert.GdnProjReferenceIdeal.main_arg2) = m ((c.tc : Thread Cert.GdnProjIdeal.nD Cert.GdnProjIdeal.τ).loc Cert.GdnProjIdeal.main_arg2)
      ∧ m' ((c.tc : Thread Cert.GdnProjReferenceIdeal.nD Cert.GdnProjReferenceIdeal.τ).loc Cert.GdnProjReferenceIdeal.main_arg3) = m ((c.tc : Thread Cert.GdnProjIdeal.nD Cert.GdnProjIdeal.τ).loc Cert.GdnProjIdeal.main_arg3)) →
    ∃ (v0 : (c : Dev Cert.GdnProjIdeal.nD) → Buf (Elt Ideal) ((c.tc : Thread Cert.GdnProjIdeal.nD Cert.GdnProjIdeal.τ).loc Cert.GdnProjIdeal.main_v0_0)) (v1 : (c : Dev Cert.GdnProjIdeal.nD) → Buf (Elt Ideal) ((c.tc : Thread Cert.GdnProjIdeal.nD Cert.GdnProjIdeal.τ).loc Cert.GdnProjIdeal.main_v0_1)),
      θ_run (Cert.GdnProjIdeal.defs (F := Ideal)) (onTc (τ := Cert.GdnProjIdeal.τ) (Cert.GdnProjIdeal.main (F := Ideal))) ⟨m, fun _ => 0, g⟩ (fun r => ∀ c : Dev Cert.GdnProjIdeal.nD,
          r.2.mem ((c.tc : Thread Cert.GdnProjIdeal.nD Cert.GdnProjIdeal.τ).loc Cert.GdnProjIdeal.main_v0_0) = v0 c
          ∧ r.2.mem ((c.tc : Thread Cert.GdnProjIdeal.nD Cert.GdnProjIdeal.τ).loc Cert.GdnProjIdeal.main_v0_1) = v1 c
          ∧ r.2.mem ((c.tc : Thread Cert.GdnProjIdeal.nD Cert.GdnProjIdeal.τ).loc Cert.GdnProjIdeal.main_arg0) = m ((c.tc : Thread Cert.GdnProjIdeal.nD Cert.GdnProjIdeal.τ).loc Cert.GdnProjIdeal.main_arg0)
          ∧ r.2.mem ((c.tc : Thread Cert.GdnProjIdeal.nD Cert.GdnProjIdeal.τ).loc Cert.GdnProjIdeal.main_arg1) = m ((c.tc : Thread Cert.GdnProjIdeal.nD Cert.GdnProjIdeal.τ).loc Cert.GdnProjIdeal.main_arg1)
          ∧ r.2.mem ((c.tc : Thread Cert.GdnProjIdeal.nD Cert.GdnProjIdeal.τ).loc Cert.GdnProjIdeal.main_arg2) = m ((c.tc : Thread Cert.GdnProjIdeal.nD Cert.GdnProjIdeal.τ).loc Cert.GdnProjIdeal.main_arg2)
          ∧ r.2.mem ((c.tc : Thread Cert.GdnProjIdeal.nD Cert.GdnProjIdeal.τ).loc Cert.GdnProjIdeal.main_arg3) = m ((c.tc : Thread Cert.GdnProjIdeal.nD Cert.GdnProjIdeal.τ).loc Cert.GdnProjIdeal.main_arg3))
      ∧ θ_run (Cert.GdnProjReferenceIdeal.defs (F := Ideal)) (onTc (τ := Cert.GdnProjReferenceIdeal.τ) (Cert.GdnProjReferenceIdeal.main (F := Ideal))) ⟨m', fun _ => 0, g'⟩ (fun r => ∀ c : Dev Cert.GdnProjReferenceIdeal.nD,
          r.2.mem ((c.tc : Thread Cert.GdnProjReferenceIdeal.nD Cert.GdnProjReferenceIdeal.τ).loc Cert.GdnProjReferenceIdeal.main_v13) = v0 c
          ∧ r.2.mem ((c.tc : Thread Cert.GdnProjReferenceIdeal.nD Cert.GdnProjReferenceIdeal.τ).loc Cert.GdnProjReferenceIdeal.main_v15) = v1 c
          ∧ r.2.mem ((c.tc : Thread Cert.GdnProjReferenceIdeal.nD Cert.GdnProjReferenceIdeal.τ).loc Cert.GdnProjReferenceIdeal.main_arg0) = m' ((c.tc : Thread Cert.GdnProjReferenceIdeal.nD Cert.GdnProjReferenceIdeal.τ).loc Cert.GdnProjReferenceIdeal.main_arg0)
          ∧ r.2.mem ((c.tc : Thread Cert.GdnProjReferenceIdeal.nD Cert.GdnProjReferenceIdeal.τ).loc Cert.GdnProjReferenceIdeal.main_arg1) = m' ((c.tc : Thread Cert.GdnProjReferenceIdeal.nD Cert.GdnProjReferenceIdeal.τ).loc Cert.GdnProjReferenceIdeal.main_arg1)
          ∧ r.2.mem ((c.tc : Thread Cert.GdnProjReferenceIdeal.nD Cert.GdnProjReferenceIdeal.τ).loc Cert.GdnProjReferenceIdeal.main_arg2) = m' ((c.tc : Thread Cert.GdnProjReferenceIdeal.nD Cert.GdnProjReferenceIdeal.τ).loc Cert.GdnProjReferenceIdeal.main_arg2)
          ∧ r.2.mem ((c.tc : Thread Cert.GdnProjReferenceIdeal.nD Cert.GdnProjReferenceIdeal.τ).loc Cert.GdnProjReferenceIdeal.main_arg3) = m' ((c.tc : Thread Cert.GdnProjReferenceIdeal.nD Cert.GdnProjReferenceIdeal.τ).loc Cert.GdnProjReferenceIdeal.main_arg3))

def Claim : Prop :=
  ∃ (hKernel : Cert.Kernel.Facts) (hKernelIdeal : Cert.KernelIdeal.Facts) (hReferenceIdeal : Cert.ReferenceIdeal.Facts) (hOutMlp : Cert.OutMlp.Facts) (hOutMlpIdeal : Cert.OutMlpIdeal.Facts) (hOutMlpReferenceIdeal : Cert.OutMlpReferenceIdeal.Facts) (hMidMlp : Cert.MidMlp.Facts) (hMidMlpIdeal : Cert.MidMlpIdeal.Facts) (hMidMlpReferenceIdeal : Cert.MidMlpReferenceIdeal.Facts) (hQkvProj : Cert.QkvProj.Facts) (hQkvProjIdeal : Cert.QkvProjIdeal.Facts) (hQkvProjReferenceIdeal : Cert.QkvProjReferenceIdeal.Facts) (hGdnProj : Cert.GdnProj.Facts) (hGdnProjIdeal : Cert.GdnProjIdeal.Facts) (hGdnProjReferenceIdeal : Cert.GdnProjReferenceIdeal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_OutMlp (hOutMlp := hOutMlp)
    ∧ quiescent_OutMlpIdeal (hOutMlpIdeal := hOutMlpIdeal)
    ∧ quiescent_OutMlpReferenceIdeal (hOutMlpReferenceIdeal := hOutMlpReferenceIdeal)
    ∧ quiescent_MidMlp (hMidMlp := hMidMlp)
    ∧ quiescent_MidMlpIdeal (hMidMlpIdeal := hMidMlpIdeal)
    ∧ quiescent_MidMlpReferenceIdeal (hMidMlpReferenceIdeal := hMidMlpReferenceIdeal)
    ∧ quiescent_QkvProj (hQkvProj := hQkvProj)
    ∧ quiescent_QkvProjIdeal (hQkvProjIdeal := hQkvProjIdeal)
    ∧ quiescent_QkvProjReferenceIdeal (hQkvProjReferenceIdeal := hQkvProjReferenceIdeal)
    ∧ quiescent_GdnProj (hGdnProj := hGdnProj)
    ∧ quiescent_GdnProjIdeal (hGdnProjIdeal := hGdnProjIdeal)
    ∧ quiescent_GdnProjReferenceIdeal (hGdnProjReferenceIdeal := hGdnProjReferenceIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_OutMlp_OutMlpIdeal
    ∧ algebraic_OutMlpIdeal_OutMlpReferenceIdeal (hOutMlpIdeal := hOutMlpIdeal) (hOutMlpReferenceIdeal := hOutMlpReferenceIdeal)
    ∧ preserves_MidMlp_MidMlpIdeal
    ∧ algebraic_MidMlpIdeal_MidMlpReferenceIdeal (hMidMlpIdeal := hMidMlpIdeal) (hMidMlpReferenceIdeal := hMidMlpReferenceIdeal)
    ∧ preserves_QkvProj_QkvProjIdeal
    ∧ algebraic_QkvProjIdeal_QkvProjReferenceIdeal (hQkvProjIdeal := hQkvProjIdeal) (hQkvProjReferenceIdeal := hQkvProjReferenceIdeal)
    ∧ preserves_GdnProj_GdnProjIdeal
    ∧ algebraic_GdnProjIdeal_GdnProjReferenceIdeal (hGdnProjIdeal := hGdnProjIdeal) (hGdnProjReferenceIdeal := hGdnProjReferenceIdeal)
-- ==== Pre_finite_qk.lean ====
abbrev S32768x3072 : Shape := ⟨2, ![32768, 3072]⟩
abbrev S32768x2048 : Shape := ⟨2, ![32768, 2048]⟩
abbrev S_ : Shape := ⟨0, ![]⟩

class Facts : Prop where
  slices_S32768x3072_S32768x2048_0_0 : S32768x3072.Slices ![0, 0] S32768x2048
  bitsLt_bf16_f32 : FTy.bits .bf16 < FTy.bits .f32
  bcast_S_S32768x2048 : S_.BroadcastsInDim S32768x2048 (![] : Fin 0 → Fin S32768x2048.rank)

variable [Facts]

def fn {F : FTy → Type} [FloatOps F] (main_arg0 : FVec F S32768x3072 .bf16) : IVec S32768x2048 1 :=
  let main_v0 : FVec F S32768x2048 .bf16 := (extractStridedSlice S32768x2048 ![0, 0] · slices_S32768x3072_S32768x2048_0_0) main_arg0
  let main_v1 : FVec F S32768x2048 .f32 := (extf .f32 · bitsLt_bf16_f32) main_v0
  let main_v2 : FVec F S32768x2048 .f32 := Host.absf main_v1
  let main_cst : FVec F S_ .f32 := constant S_ .f32 0x7F800000#32
  let main_v3 : FVec F S32768x2048 .f32 := broadcastInDim S32768x2048 ![] bcast_S_S32768x2048 main_cst
  let main_v4 : IVec S32768x2048 1 := cmpf .olt main_v2 main_v3
  main_v4
-- ==== Kernel.lean ====
abbrev S32768x3072 : Shape := ⟨2, ![32768, 3072]⟩
abbrev S32768x1024 : Shape := ⟨2, ![32768, 1024]⟩
abbrev S256x128 : Shape := ⟨2, ![256, 128]⟩
abbrev S4096x128 : Shape := ⟨2, ![4096, 128]⟩
abbrev S16x128 : Shape := ⟨2, ![16, 128]⟩
abbrev S16x128x256 : Shape := ⟨3, ![16, 128, 256]⟩
abbrev S16x256 : Shape := ⟨2, ![16, 256]⟩
abbrev S16x4096 : Shape := ⟨2, ![16, 4096]⟩
abbrev S128x256 : Shape := ⟨2, ![128, 256]⟩
abbrev S1x128x256 : Shape := ⟨3, ![1, 128, 256]⟩
abbrev S1x256 : Shape := ⟨2, ![1, 256]⟩
abbrev S1x1 : Shape := ⟨2, ![1, 1]⟩
abbrev S256x256 : Shape := ⟨2, ![256, 256]⟩
abbrev S256 : Shape := ⟨1, ![256]⟩

abbrev nBuf : Space → Nat
  | .hbm => 2
  | .vmem => 11
  | .smem => 0
  | _ => 0

abbrev bufTy : (tb : Table) → Fin (tcTables nBuf tb) → BufTy
  | .hbm, ⟨0, _⟩ => ⟨S32768x3072, .bf16⟩
  | .hbm, ⟨1, _⟩ => ⟨S32768x1024, .bf16⟩
  | .local _ .vmem, ⟨0, _⟩ => ⟨S256x128, .bf16⟩
  | .local _ .vmem, ⟨1, _⟩ => ⟨S256x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S256x128, .bf16⟩
  | .local _ .vmem, ⟨7, _⟩ => ⟨S256x128, .bf16⟩
  | .local _ .vmem, ⟨8, _⟩ => ⟨S16x128, .bf16⟩
  | .local _ .vmem, ⟨9, _⟩ => ⟨S16x128x256, .bf16⟩
  | .local _ .vmem, ⟨10, _⟩ => ⟨S16x256, .f32⟩
  | _, _ => ⟨S32768x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 16], ![false, false, false]⟩

def k0_mult1 (i : grid0.Coords) : BitVec 32 :=
  let arg2 : BitVec 32 := BitVec.ofNat 32 (i 2).val
  let c256_i32 : BitVec 32 := 256#32
  let v242 : BitVec 32 := Scalar.muli arg2 c256_i32
  v242
def k0_off1 (i : grid0.Coords) : Fin 2 → Nat :=
  let arg2 : BitVec 32 := BitVec.ofNat 32 (i 2).val
  let c256_i32 : BitVec 32 := 256#32
  let v242 : BitVec 32 := Scalar.muli arg2 c256_i32
  let v243 : BitVec 32 := v242
  let v244 : Index := Scalar.indexCast v243
  let c0_48 : Index := 0#32
  ![v244.toNat, 0]
def k0_off2 (i : grid0.Coords) : Fin 3 → Nat :=
  let arg2 : BitVec 32 := BitVec.ofNat 32 (i 2).val
  let v260 : Index := Scalar.indexCast arg2
  let c0_54 : Index := 0#32
  let c0_55 : Index := 0#32
  ![v260.toNat, 0, 0]
@[reducible] def k0_t1_loop (i : grid0.Coords) : Scf.Loop 32 :=
  let c0_i32_57 : BitVec 32 := 0#32
  let arg2 : BitVec 32 := BitVec.ofNat 32 (i 2).val
  let v265 : BitVec 32 := Scalar.subi arg2 c0_i32_57
  let c1_i32_58 : BitVec 32 := 1#32
  let v267 : BitVec 32 := Scalar.divsi v265 c1_i32_58
  let v268 : BitVec 32 := Scalar.muli v267 c1_i32_58
  let v269 : BitVec 32 := Scalar.addi c0_i32_57 v268
  let c1_i32_59 : BitVec 32 := 1#32
  ⟨c0_i32_57, v269, c1_i32_59⟩
def k0_mult2 (i : grid0.Coords) (k0_t1 : Fin (k0_t1_loop i).trips) : BitVec 32 :=
  let c0_i32_57 : BitVec 32 := 0#32
  let c1_i32_59 : BitVec 32 := 1#32
  let arg10 : BitVec 32 := Scf.iv c0_i32_57 c1_i32_59 k0_t1
  let c256_i32_63 : BitVec 32 := 256#32
  let v277 : BitVec 32 := Scalar.muli arg10 c256_i32_63
  v277
def k0_off3 (i : grid0.Coords) (k0_t1 : Fin (k0_t1_loop i).trips) : Fin 2 → Nat :=
  let c0_i32_57 : BitVec 32 := 0#32
  let c1_i32_59 : BitVec 32 := 1#32
  let arg10 : BitVec 32 := Scf.iv c0_i32_57 c1_i32_59 k0_t1
  let c256_i32_63 : BitVec 32 := 256#32
  let v277 : BitVec 32 := Scalar.muli arg10 c256_i32_63
  let v278 : BitVec 32 := v277
  let v279 : Index := Scalar.indexCast v278
  let c0_64 : Index := 0#32
  ![v279.toNat, 0]
def k0_off4 (i : grid0.Coords) (k0_t1 : Fin (k0_t1_loop i).trips) : Fin 2 → Nat :=
  let c0_i32_57 : BitVec 32 := 0#32
  let c1_i32_59 : BitVec 32 := 1#32
  let arg10 : BitVec 32 := Scf.iv c0_i32_57 c1_i32_59 k0_t1
  let v281 : Index := Scalar.indexCast arg10
  let c0_65 : Index := 0#32
  ![v281.toNat, 0]
def k0_off5 (i : grid0.Coords) (k0_t1 : Fin (k0_t1_loop i).trips) : Fin 3 → Nat :=
  let c0_i32_57 : BitVec 32 := 0#32
  let c1_i32_59 : BitVec 32 := 1#32
  let arg10 : BitVec 32 := Scf.iv c0_i32_57 c1_i32_59 k0_t1
  let v310 : Index := Scalar.indexCast arg10
  let c0_71 : Index := 0#32
  let c0_72 : Index := 0#32
  ![v310.toNat, 0, 0]
@[reducible] def k0_t2_loop (i : grid0.Coords) : Scf.Loop 32 :=
  let c0_i32_57 : BitVec 32 := 0#32
  let arg2 : BitVec 32 := BitVec.ofNat 32 (i 2).val
  let v265 : BitVec 32 := Scalar.subi arg2 c0_i32_57
  let c1_i32_58 : BitVec 32 := 1#32
  let v267 : BitVec 32 := Scalar.divsi v265 c1_i32_58
  let v268 : BitVec 32 := Scalar.muli v267 c1_i32_58
  let v269 : BitVec 32 := Scalar.addi c0_i32_57 v268
  let v266 : BitVec 32 := Scalar.addi c0_i32_57 v265
  let c1_i32_60 : BitVec 32 := 1#32
  ⟨v269, v266, c1_i32_60⟩
def k0_mult3 (i : grid0.Coords) (k0_t2 : Fin (k0_t2_loop i).trips) : BitVec 32 :=
  let c0_i32_57 : BitVec 32 := 0#32
  let arg2 : BitVec 32 := BitVec.ofNat 32 (i 2).val
  let v265 : BitVec 32 := Scalar.subi arg2 c0_i32_57
  let c1_i32_58 : BitVec 32 := 1#32
  let v267 : BitVec 32 := Scalar.divsi v265 c1_i32_58
  let v268 : BitVec 32 := Scalar.muli v267 c1_i32_58
  let v269 : BitVec 32 := Scalar.addi c0_i32_57 v268
  let c1_i32_60 : BitVec 32 := 1#32
  let arg10 : BitVec 32 := Scf.iv v269 c1_i32_60 k0_t2
  let c256_i32_63 : BitVec 32 := 256#32
  let v277 : BitVec 32 := Scalar.muli arg10 c256_i32_63
  v277
def k0_off6 (i : grid0.Coords) (k0_t2 : Fin (k0_t2_loop i).trips) : Fin 2 → Nat :=
  let c0_i32_57 : BitVec 32 := 0#32
  let arg2 : BitVec 32 := BitVec.ofNat 32 (i 2).val
  let v265 : BitVec 32 := Scalar.subi arg2 c0_i32_57
  let c1_i32_58 : BitVec 32 := 1#32
  let v267 : BitVec 32 := Scalar.divsi v265 c1_i32_58
  let v268 : BitVec 32 := Scalar.muli v267 c1_i32_58
  let v269 : BitVec 32 := Scalar.addi c0_i32_57 v268
  let c1_i32_60 : BitVec 32 := 1#32
  let arg10 : BitVec 32 := Scf.iv v269 c1_i32_60 k0_t2
  let c256_i32_63 : BitVec 32 := 256#32
  let v277 : BitVec 32 := Scalar.muli arg10 c256_i32_63
  let v278 : BitVec 32 := v277
  let v279 : Index := Scalar.indexCast v278
  let c0_64 : Index := 0#32
  ![v279.toNat, 0]
def k0_off7 (i : grid0.Coords) (k0_t2 : Fin (k0_t2_loop i).trips) : Fin 2 → Nat :=
  let c0_i32_57 : BitVec 32 := 0#32
  let arg2 : BitVec 32 := BitVec.ofNat 32 (i 2).val
  let v265 : BitVec 32 := Scalar.subi arg2 c0_i32_57
  let c1_i32_58 : BitVec 32 := 1#32
  let v267 : BitVec 32 := Scalar.divsi v265 c1_i32_58
  let v268 : BitVec 32 := Scalar.muli v267 c1_i32_58
  let v269 : BitVec 32 := Scalar.addi c0_i32_57 v268
  let c1_i32_60 : BitVec 32 := 1#32
  let arg10 : BitVec 32 := Scf.iv v269 c1_i32_60 k0_t2
  let v281 : Index := Scalar.indexCast arg10
  let c0_65 : Index := 0#32
  ![v281.toNat, 0]
def k0_off8 (i : grid0.Coords) (k0_t2 : Fin (k0_t2_loop i).trips) : Fin 3 → Nat :=
  let c0_i32_57 : BitVec 32 := 0#32
  let arg2 : BitVec 32 := BitVec.ofNat 32 (i 2).val
  let v265 : BitVec 32 := Scalar.subi arg2 c0_i32_57
  let c1_i32_58 : BitVec 32 := 1#32
  let v267 : BitVec 32 := Scalar.divsi v265 c1_i32_58
  let v268 : BitVec 32 := Scalar.muli v267 c1_i32_58
  let v269 : BitVec 32 := Scalar.addi c0_i32_57 v268
  let c1_i32_60 : BitVec 32 := 1#32
  let arg10 : BitVec 32 := Scf.iv v269 c1_i32_60 k0_t2
  let v310 : Index := Scalar.indexCast arg10
  let c0_71 : Index := 0#32
  let c0_72 : Index := 0#32
  ![v310.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S32768x3072 : Shape := ⟨2, ![32768, 3072]⟩
abbrev S8x4096x3072 : Shape := ⟨3, ![8, 4096, 3072]⟩
abbrev S8x4096x1024 : Shape := ⟨3, ![8, 4096, 1024]⟩
abbrev S8x4096x8x128 : Shape := ⟨4, ![8, 4096, 8, 128]⟩
abbrev S8x8x4096x128 : Shape := ⟨4, ![8, 8, 4096, 128]⟩
abbrev S8x8x16x256x128 : Shape := ⟨5, ![8, 8, 16, 256, 128]⟩
abbrev S8 : Shape := ⟨1, ![8]⟩
abbrev S_ : Shape := ⟨0, ![]⟩
abbrev S8x8x16x128 : Shape := ⟨4, ![8, 8, 16, 128]⟩
abbrev S8x8x4096x16 : Shape := ⟨4, ![8, 8, 4096, 16]⟩
abbrev S4096 : Shape := ⟨1, ![4096]⟩
abbrev S16 : Shape := ⟨1, ![16]⟩
abbrev S1x16 : Shape := ⟨2, ![1, 16]⟩
abbrev S4096x1 : Shape := ⟨2, ![4096, 1]⟩
abbrev S4096x16 : Shape := ⟨2, ![4096, 16]⟩
abbrev S8x8x4096x3 : Shape := ⟨4, ![8, 8, 4096, 3]⟩
abbrev S1x1x4096x1 : Shape := ⟨4, ![1, 1, 4096, 1]⟩
abbrev S8x8x4096x3x1 : Shape := ⟨5, ![8, 8, 4096, 3, 1]⟩
abbrev S8x8x4096x3x256x128 : Shape := ⟨6, ![8, 8, 4096, 3, 256, 128]⟩
abbrev S8x8x4096x3x256 : Shape := ⟨5, ![8, 8, 4096, 3, 256]⟩
abbrev S256 : Shape := ⟨1, ![256]⟩
abbrev S1x1x1x1x256 : Shape := ⟨5, ![1, 1, 1, 1, 256]⟩
abbrev S4096x1x1 : Shape := ⟨3, ![4096, 1, 1]⟩
abbrev S1x1x4096x1x1 : Shape := ⟨5, ![1, 1, 4096, 1, 1]⟩
abbrev S8x1x1x1 : Shape := ⟨4, ![8, 1, 1, 1]⟩
abbrev S1x8x1x1x1 : Shape := ⟨5, ![1, 8, 1, 1, 1]⟩
abbrev S8x8x16x256x256 : Shape := ⟨5, ![8, 8, 16, 256, 256]⟩
abbrev S8x8x4096x256 : Shape := ⟨4, ![8, 8, 4096, 256]⟩
abbrev S1x256 : Shape := ⟨2, ![1, 256]⟩
abbrev S4096x256 : Shape := ⟨2, ![4096, 256]⟩
abbrev S8x1x1 : Shape := ⟨3, ![8, 1, 1]⟩
abbrev S1x4096x256 : Shape := ⟨3, ![1, 4096, 256]⟩
abbrev S8x4096x256 : Shape := ⟨3, ![8, 4096, 256]⟩
abbrev S1x8x4096x256 : Shape := ⟨4, ![1, 8, 4096, 256]⟩
abbrev S8x8x4096x768 : Shape := ⟨4, ![8, 8, 4096, 768]⟩
abbrev S8x8x4096x1024 : Shape := ⟨4, ![8, 8, 4096, 1024]⟩
abbrev S8x8x4096 : Shape := ⟨3, ![8, 8, 4096]⟩
abbrev S8x8x4096x1 : Shape := ⟨4, ![8, 8, 4096, 1]⟩
abbrev S32768x1024 : Shape := ⟨2, ![32768, 1024]⟩

abbrev nBuf : Space → Nat
  | .hbm => 180
  | .vmem => 0
  | .smem => 0
  | _ => 0

abbrev hbmTy0_0 (i : Nat) : BufTy := match i % 128 with
  | 0 => ⟨S32768x3072, .bf16⟩
  | 1 => ⟨S32768x3072, .f32⟩
  | 2 => ⟨S8x4096x3072, .f32⟩
  | 3 => ⟨S8x4096x1024, .f32⟩
  | 4 => ⟨S8x4096x8x128, .f32⟩
  | 5 => ⟨S8x8x4096x128, .f32⟩
  | 6 => ⟨S8x4096x1024, .f32⟩
  | 7 => ⟨S8x4096x8x128, .f32⟩
  | 8 => ⟨S8x8x4096x128, .f32⟩
  | 9 => ⟨S8x4096x1024, .f32⟩
  | 10 => ⟨S8x4096x8x128, .f32⟩
  | 11 => ⟨S8x8x4096x128, .f32⟩
  | 12 => ⟨S8x8x16x256x128, .f32⟩
  | 13 => ⟨S8x8x16x256x128, .f32⟩
  | 14 => ⟨S8, .f32⟩
  | 15 => ⟨S_, .f32⟩
  | 16 => ⟨S8, .f32⟩
  | 17 => ⟨S8, .f32⟩
  | 18 => ⟨S_, .f32⟩
  | 19 => ⟨S8, .f32⟩
  | 20 => ⟨S8, .f32⟩
  | 21 => ⟨S_, .f32⟩
  | 22 => ⟨S8, .f32⟩
  | 23 => ⟨S8, .f32⟩
  | 24 => ⟨S_, .f32⟩
  | 25 => ⟨S8, .f32⟩
  | 26 => ⟨S8, .f32⟩
  | 27 => ⟨S_, .f32⟩
  | 28 => ⟨S8x8x16x128, .f32⟩
  | 29 => ⟨S_, .f32⟩
  | 30 => ⟨S8x8x16x128, .f32⟩
  | 31 => ⟨S8x8x16x128, .f32⟩
  | 32 => ⟨S8x8x4096x16, .f32⟩
  | 33 => ⟨S4096, .i32⟩
  | 34 => ⟨S_, .i32⟩
  | 35 => ⟨S_, .i32⟩
  | 36 => ⟨S4096, .i32⟩
  | 37 => ⟨S4096, .i32⟩
  | 38 => ⟨S4096, .i32⟩
  | 39 => ⟨S_, .i32⟩
  | 40 => ⟨S4096, .i32⟩
  | 41 => ⟨S4096, .i1⟩
  | 42 => ⟨S4096, .i32⟩
  | 43 => ⟨S4096, .i32⟩
  | 44 => ⟨S_, .i32⟩
  | 45 => ⟨S4096, .i32⟩
  | 46 => ⟨S4096, .i1⟩
  | 47 => ⟨S4096, .i1⟩
  | 48 => ⟨S_, .i32⟩
  | 49 => ⟨S4096, .i32⟩
  | 50 => ⟨S4096, .i32⟩
  | 51 => ⟨S4096, .i32⟩
  | 52 => ⟨S16, .i32⟩
  | 53 => ⟨S1x16, .i32⟩
  | 54 => ⟨S4096x1, .i32⟩
  | 55 => ⟨S4096x16, .i32⟩
  | 56 => ⟨S4096x16, .i32⟩
  | 57 => ⟨S4096x16, .i1⟩
  | 58 => ⟨S_, .f32⟩
  | 59 => ⟨S_, .f32⟩
  | 60 => ⟨S8x8x4096x16, .i1⟩
  | 61 => ⟨S8x8x4096x16, .f32⟩
  | 62 => ⟨S8x8x4096x16, .f32⟩
  | 63 => ⟨S8x8x4096x3, .f32⟩
  | 64 => ⟨S8x8x4096x3, .i32⟩
  | 65 => ⟨S4096x1, .i32⟩
  | 66 => ⟨S1x1x4096x1, .i32⟩
  | 67 => ⟨S8x8x4096x3, .i32⟩
  | 68 => ⟨S8x8x4096x3, .i1⟩
  | 69 => ⟨S4096, .i32⟩
  | 70 => ⟨S4096, .f32⟩
  | 71 => ⟨S_, .i32⟩
  | 72 => ⟨S8x8x4096x3, .i32⟩
  | 73 => ⟨S8x8x4096x3, .i1⟩
  | 74 => ⟨S_, .i32⟩
  | 75 => ⟨S8x8x4096x3, .i32⟩
  | 76 => ⟨S8x8x4096x3, .i32⟩
  | 77 => ⟨S8x8x4096x3, .i32⟩
  | 78 => ⟨S8x8x4096x3x1, .i32⟩
  | 79 => ⟨S8x8x4096x3x256x128, .f32⟩
  | 80 => ⟨S_, .i32⟩
  | 81 => ⟨S8x8x4096x3, .i32⟩
  | 82 => ⟨S8x8x4096x3, .i1⟩
  | 83 => ⟨S_, .i32⟩
  | 84 => ⟨S8x8x4096x3, .i32⟩
  | 85 => ⟨S8x8x4096x3, .i32⟩
  | 86 => ⟨S8x8x4096x3, .i32⟩
  | 87 => ⟨S8x8x4096x3x1, .i32⟩
  | 88 => ⟨S8x8x4096x3x256x128, .f32⟩
  | 89 => ⟨S8x8x4096x3x256, .f32⟩
  | 90 => ⟨S_, .f32⟩
  | 91 => ⟨S8x8x4096x3x256, .f32⟩
  | 92 => ⟨S8x8x4096x3x256, .f32⟩
  | 93 => ⟨S8x8x4096x3x1, .i32⟩
  | 94 => ⟨S_, .i32⟩
  | 95 => ⟨S8x8x4096x3x1, .i32⟩
  | 96 => ⟨S8x8x4096x3x1, .i32⟩
  | 97 => ⟨S256, .i32⟩
  | 98 => ⟨S1x1x1x1x256, .i32⟩
  | 99 => ⟨S8x8x4096x3x256, .i32⟩
  | 100 => ⟨S8x8x4096x3x256, .i32⟩
  | 101 => ⟨S8x8x4096x3x256, .i32⟩
  | 102 => ⟨S8x8x4096x3x256, .f32⟩
  | 103 => ⟨S4096x1x1, .f32⟩
  | 104 => ⟨S1x1x4096x1x1, .f32⟩
  | 105 => ⟨S8x8x4096x3x256, .f32⟩
  | 106 => ⟨S8x8x4096x3x256, .f32⟩
  | 107 => ⟨S8x8x4096x3x1, .i1⟩
  | 108 => ⟨S8x1x1x1, .f32⟩
  | 109 => ⟨S1x8x1x1x1, .f32⟩
  | 110 => ⟨S8x8x4096x3x256, .f32⟩
  | 111 => ⟨S8x8x4096x3x256, .f32⟩
  | 112 => ⟨S8x8x4096x3x256, .f32⟩
  | 113 => ⟨S_, .f32⟩
  | 114 => ⟨S_, .f32⟩
  | 115 => ⟨S8x8x4096x3x256, .i1⟩
  | 116 => ⟨S8x8x4096x3x256, .f32⟩
  | 117 => ⟨S8x8x4096x3x256, .f32⟩
  | 118 => ⟨S8x8x16x256x128, .f32⟩
  | 119 => ⟨S8x8x16x256x256, .f32⟩
  | 120 => ⟨S_, .f32⟩
  | 121 => ⟨S8x8x16x256x256, .f32⟩
  | 122 => ⟨S8x8x16x256x256, .f32⟩
  | 123 => ⟨S8x8x4096x256, .f32⟩
  | 124 => ⟨S4096x1, .f32⟩
  | 125 => ⟨S4096x1, .i32⟩
  | 126 => ⟨S_, .i32⟩
  | 127 => ⟨S4096x1, .i32⟩
  | _ => ⟨S32768x3072, .bf16⟩

abbrev hbmTy0_1 (i : Nat) : BufTy := match i % 128 with
  | 0 => ⟨S4096x1, .i32⟩
  | 1 => ⟨S256, .i32⟩
  | 2 => ⟨S1x256, .i32⟩
  | 3 => ⟨S4096x256, .i32⟩
  | 4 => ⟨S4096x256, .i32⟩
  | 5 => ⟨S4096x256, .i32⟩
  | 6 => ⟨S4096x256, .f32⟩
  | 7 => ⟨S4096x256, .f32⟩
  | 8 => ⟨S4096x256, .f32⟩
  | 9 => ⟨S_, .f32⟩
  | 10 => ⟨S4096x256, .f32⟩
  | 11 => ⟨S4096x256, .i1⟩
  | 12 => ⟨S8x1x1, .f32⟩
  | 13 => ⟨S1x4096x256, .f32⟩
  | 14 => ⟨S8x4096x256, .f32⟩
  | 15 => ⟨S8x4096x256, .f32⟩
  | 16 => ⟨S8x4096x256, .f32⟩
  | 17 => ⟨S1x8x4096x256, .f32⟩
  | 18 => ⟨S8x8x4096x256, .f32⟩
  | 19 => ⟨S8x8x4096x256, .f32⟩
  | 20 => ⟨S_, .f32⟩
  | 21 => ⟨S_, .f32⟩
  | 22 => ⟨S8x8x4096x256, .i1⟩
  | 23 => ⟨S8x8x4096x256, .f32⟩
  | 24 => ⟨S8x8x4096x256, .f32⟩
  | 25 => ⟨S8x8x4096x768, .f32⟩
  | 26 => ⟨S8x8x4096x1024, .f32⟩
  | 27 => ⟨S_, .f32⟩
  | 28 => ⟨S8x8x4096, .f32⟩
  | 29 => ⟨S_, .f32⟩
  | 30 => ⟨S8x8x4096, .f32⟩
  | 31 => ⟨S8x8x4096, .f32⟩
  | 32 => ⟨S8x8x4096x1, .f32⟩
  | 33 => ⟨S8x8x4096x1024, .f32⟩
  | 34 => ⟨S8x8x4096x1024, .f32⟩
  | 35 => ⟨S8x8x4096x1024, .f32⟩
  | 36 => ⟨S_, .f32⟩
  | 37 => ⟨S8x8x4096, .f32⟩
  | 38 => ⟨S8x8x4096x1, .f32⟩
  | 39 => ⟨S8x8x4096x1024, .f32⟩
  | 40 => ⟨S8x8x4096x1024, .f32⟩
  | 41 => ⟨S8x8x4096x768, .f32⟩
  | 42 => ⟨S8x8x4096x3x256, .f32⟩
  | 43 => ⟨S8x8x4096x256, .f32⟩
  | 44 => ⟨S8x8x4096x128, .f32⟩
  | 45 => ⟨S8x8x16x256x256, .f32⟩
  | 46 => ⟨S8x8x16x256x128, .f32⟩
  | 47 => ⟨S8x8x4096x128, .f32⟩
  | 48 => ⟨S8x8x4096x128, .f32⟩
  | 49 => ⟨S8x4096x8x128, .f32⟩
  | 50 => ⟨S32768x1024, .f32⟩
  | 51 => ⟨S32768x1024, .bf16⟩
  | _ => ⟨S32768x3072, .bf16⟩

abbrev hbmTy (i : Nat) : BufTy := match i / 128 with
  | 0 => hbmTy0_0 i
  | 1 => hbmTy0_1 i
  | _ => ⟨S32768x3072, .bf16⟩

abbrev bufTy : (tb : Table) → Fin (tcTables nBuf tb) → BufTy
  | .hbm, ⟨i, _⟩ => hbmTy i
  | _, _ => ⟨S32768x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_cst : Ref sig .tc := ⟨.hbm, 15, rfl⟩
abbrev main_v14 : Ref sig .tc := ⟨.hbm, 16, rfl⟩
abbrev main_v15 : Ref sig .tc := ⟨.hbm, 17, rfl⟩
abbrev main_cst_0 : Ref sig .tc := ⟨.hbm, 18, rfl⟩
abbrev main_v16 : Ref sig .tc := ⟨.hbm, 19, rfl⟩
abbrev main_v17 : Ref sig .tc := ⟨.hbm, 20, rfl⟩
abbrev main_cst_1 : Ref sig .tc := ⟨.hbm, 21, rfl⟩
abbrev main_v18 : Ref sig .tc := ⟨.hbm, 22, rfl⟩
abbrev main_v19 : Ref sig .tc := ⟨.hbm, 23, rfl⟩
abbrev main_cst_2 : Ref sig .tc := ⟨.hbm, 24, rfl⟩
abbrev main_v20 : Ref sig .tc := ⟨.hbm, 25, rfl⟩
abbrev main_v21 : Ref sig .tc := ⟨.hbm, 26, rfl⟩
abbrev main_cst_3 : Ref sig .tc := ⟨.hbm, 27, rfl⟩
abbrev main_v22 : Ref sig .tc := ⟨.hbm, 28, rfl⟩
abbrev main_cst_4 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_c : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_c : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_c_0 : Ref sig .tc := ⟨.hbm, 48, rfl⟩
abbrev main_call0_v12 : Ref sig .tc := ⟨.hbm, 49, rfl⟩
abbrev main_call0_v13 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_5 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v34 : Ref sig .tc := ⟨.hbm, 62, rfl⟩
abbrev main_values : Ref sig .tc := ⟨.hbm, 63, rfl⟩
abbrev main_indices : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_c_6 : Ref sig .tc := ⟨.hbm, 71, rfl⟩
abbrev main_v41 : Ref sig .tc := ⟨.hbm, 72, rfl⟩
abbrev main_v42 : Ref sig .tc := ⟨.hbm, 73, rfl⟩
abbrev main_c_7 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_c_8 : Ref sig .tc := ⟨.hbm, 80, rfl⟩
abbrev main_v48 : Ref sig .tc := ⟨.hbm, 81, rfl⟩
abbrev main_v49 : Ref sig .tc := ⟨.hbm, 82, rfl⟩
abbrev main_c_9 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_10 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_c_11 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_12 : Ref sig .tc := ⟨.hbm, 113, rfl⟩
abbrev main_call2_v0 : Ref sig .tc := ⟨.hbm, 114, rfl⟩
abbrev main_call2_v1 : Ref sig .tc := ⟨.hbm, 115, rfl⟩
abbrev main_call2_v2 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_cst_13 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_c_14 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_15 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_cst_16 : Ref sig .tc := ⟨.hbm, 148, rfl⟩
abbrev main_call3_v0 : Ref sig .tc := ⟨.hbm, 149, rfl⟩
abbrev main_call3_v1 : Ref sig .tc := ⟨.hbm, 150, rfl⟩
abbrev main_call3_v2 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_cst_17 : Ref sig .tc := ⟨.hbm, 155, rfl⟩
abbrev main_v108 : Ref sig .tc := ⟨.hbm, 156, rfl⟩
abbrev main_cst_18 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_cst_19 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩

abbrev nD : Nat := 1
abbrev τ : Topo := Topo.v7x

variable {F : FTy → Type} [FloatOps F]
-- ==== OutMlp.lean ====
abbrev S32768x1024 : Shape := ⟨2, ![32768, 1024]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 8
  | .vmem => 11
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S1024x1024, .bf16⟩
  | .hbm, ⟨3, _⟩ => ⟨S1x1024, .f32⟩
  | .hbm, ⟨4, _⟩ => ⟨S1024x4096, .bf16⟩
  | .hbm, ⟨5, _⟩ => ⟨S4096x1024, .bf16⟩
  | .hbm, ⟨6, _⟩ => ⟨S1x1024, .f32⟩
  | .hbm, ⟨7, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1024x4096, .bf16⟩
  | .local _ .vmem, ⟨7, _⟩ => ⟨S4096x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutMlpReferenceIdeal.lean ====
abbrev S32768x1024 : Shape := ⟨2, ![32768, 1024]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S32768 : Shape := ⟨1, ![32768]⟩
abbrev S32768x1 : Shape := ⟨2, ![32768, 1]⟩
abbrev S32768x4096 : Shape := ⟨2, ![32768, 4096]⟩

abbrev nBuf : Space → Nat
  | .hbm => 50
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S1024x1024, .bf16⟩
  | .hbm, ⟨3, _⟩ => ⟨S1x1024, .f32⟩
  | .hbm, ⟨4, _⟩ => ⟨S1024x4096, .bf16⟩
  | .hbm, ⟨5, _⟩ => ⟨S4096x1024, .bf16⟩
  | .hbm, ⟨6, _⟩ => ⟨S1x1024, .f32⟩
  | .hbm, ⟨7, _⟩ => ⟨S32768x1024, .f32⟩
  | .hbm, ⟨8, _⟩ => ⟨S1024x1024, .f32⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S32768x1, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S1024x4096, .f32⟩
  | .hbm, ⟨27, _⟩ => ⟨S4096x1024, .f32⟩
  | .hbm, ⟨28, _⟩ => ⟨S32768x4096, .f32⟩
  | .hbm, ⟨29, _⟩ => ⟨S_, .f32⟩
  | .hbm, ⟨30, _⟩ => ⟨S32768x4096, .f32⟩
  | .hbm, ⟨31, _⟩ => ⟨S32768x4096, .f32⟩
  | .hbm, ⟨32, _⟩ => ⟨S32768x4096, .f32⟩
  | .hbm, ⟨33, _⟩ => ⟨S32768x1024, .f32⟩
  | .hbm, ⟨34, _⟩ => ⟨S32768x1024, .f32⟩
  | .hbm, ⟨35, _⟩ => ⟨S32768x1024, .f32⟩
  | .hbm, ⟨36, _⟩ => ⟨S_, .f32⟩
  | .hbm, ⟨37, _⟩ => ⟨S32768, .f32⟩
  | .hbm, ⟨38, _⟩ => ⟨S32768x1, .f32⟩
  | .hbm, ⟨39, _⟩ => ⟨S_, .f32⟩
  | .hbm, ⟨40, _⟩ => ⟨S32768x1, .f32⟩
  | .hbm, ⟨41, _⟩ => ⟨S32768x1, .f32⟩
  | .hbm, ⟨42, _⟩ => ⟨S_, .f32⟩
  | .hbm, ⟨43, _⟩ => ⟨S32768x1, .f32⟩
  | .hbm, ⟨44, _⟩ => ⟨S32768x1, .f32⟩
  | .hbm, ⟨45, _⟩ => ⟨S32768x1, .f32⟩
  | .hbm, ⟨46, _⟩ => ⟨S32768x1024, .f32⟩
  | .hbm, ⟨47, _⟩ => ⟨S32768x1024, .f32⟩
  | .hbm, ⟨48, _⟩ => ⟨S32768x1024, .f32⟩
  | .hbm, ⟨49, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_cst : Ref sig .tc := ⟨.hbm, 29, rfl⟩
abbrev main_call0_v0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]
-- ==== MidMlp.lean ====
abbrev S32768x1024 : Shape := ⟨2, ![32768, 1024]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 8
  | .vmem => 11
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S1024x1024, .bf16⟩
  | .hbm, ⟨3, _⟩ => ⟨S1x1024, .f32⟩
  | .hbm, ⟨4, _⟩ => ⟨S1024x4096, .bf16⟩
  | .hbm, ⟨5, _⟩ => ⟨S4096x1024, .bf16⟩
  | .hbm, ⟨6, _⟩ => ⟨S1x1024, .f32⟩
  | .hbm, ⟨7, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1024x4096, .bf16⟩
  | .local _ .vmem, ⟨7, _⟩ => ⟨S4096x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MidMlpReferenceIdeal.lean ====
abbrev S32768x1024 : Shape := ⟨2, ![32768, 1024]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S32768 : Shape := ⟨1, ![32768]⟩
abbrev S32768x1 : Shape := ⟨2, ![32768, 1]⟩
abbrev S32768x4096 : Shape := ⟨2, ![32768, 4096]⟩

abbrev nBuf : Space → Nat
  | .hbm => 35
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S1024x1024, .bf16⟩
  | .hbm, ⟨3, _⟩ => ⟨S1x1024, .f32⟩
  | .hbm, ⟨4, _⟩ => ⟨S1024x4096, .bf16⟩
  | .hbm, ⟨5, _⟩ => ⟨S4096x1024, .bf16⟩
  | .hbm, ⟨6, _⟩ => ⟨S1x1024, .f32⟩
  | .hbm, ⟨7, _⟩ => ⟨S32768x1024, .f32⟩
  | .hbm, ⟨8, _⟩ => ⟨S1024x1024, .f32⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S32768x1, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S1024x4096, .f32⟩
  | .hbm, ⟨27, _⟩ => ⟨S4096x1024, .f32⟩
  | .hbm, ⟨28, _⟩ => ⟨S32768x4096, .f32⟩
  | .hbm, ⟨29, _⟩ => ⟨S_, .f32⟩
  | .hbm, ⟨30, _⟩ => ⟨S32768x4096, .f32⟩
  | .hbm, ⟨31, _⟩ => ⟨S32768x4096, .f32⟩
  | .hbm, ⟨32, _⟩ => ⟨S32768x4096, .f32⟩
  | .hbm, ⟨33, _⟩ => ⟨S32768x1024, .f32⟩
  | .hbm, ⟨34, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_cst : Ref sig .tc := ⟨.hbm, 29, rfl⟩
abbrev main_call0_v0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]
-- ==== QkvProj.lean ====
abbrev S32768x1024 : Shape := ⟨2, ![32768, 1024]⟩
abbrev S1x1024 : Shape := ⟨2, ![1, 1024]⟩
abbrev S1024x3072 : Shape := ⟨2, ![1024, 3072]⟩
abbrev S32768x3072 : Shape := ⟨2, ![32768, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x3072, .bf16⟩
  | .hbm, ⟨3, _⟩ => ⟨S32768x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x3072, .bf16⟩
  | .local _ .vmem, ⟨5, _⟩ => ⟨S512x3072, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== QkvProjReferenceIdeal.lean ====
abbrev S32768x1024 : Shape := ⟨2, ![32768, 1024]⟩
abbrev S1x1024 : Shape := ⟨2, ![1, 1024]⟩
abbrev S1024x3072 : Shape := ⟨2, ![1024, 3072]⟩
abbrev S_ : Shape := ⟨0, ![]⟩
abbrev S32768 : Shape := ⟨1, ![32768]⟩
abbrev S32768x1 : Shape := ⟨2, ![32768, 1]⟩
abbrev S32768x3072 : Shape := ⟨2, ![32768, 3072]⟩

abbrev nBuf : Space → Nat
  | .hbm => 21
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x3072, .bf16⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S1024x3072, .f32⟩
  | .hbm, ⟨19, _⟩ => ⟨S32768x3072, .f32⟩
  | .hbm, ⟨20, _⟩ => ⟨S32768x3072, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== GdnProj.lean ====
abbrev S32768x1024 : Shape := ⟨2, ![32768, 1024]⟩
abbrev S1x1024 : Shape := ⟨2, ![1, 1024]⟩
abbrev S1024x4096 : Shape := ⟨2, ![1024, 4096]⟩
abbrev S1024x128 : Shape := ⟨2, ![1024, 128]⟩
abbrev S32768x4096 : Shape := ⟨2, ![32768, 4096]⟩
abbrev S32768x128 : Shape := ⟨2, ![32768, 128]⟩
abbrev S512x1024 : Shape := ⟨2, ![512, 1024]⟩
abbrev S512x4096 : Shape := ⟨2, ![512, 4096]⟩
abbrev S512x128 : Shape := ⟨2, ![512, 128]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 6
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x4096, .bf16⟩
  | .hbm, ⟨3, _⟩ => ⟨S1024x128, .bf16⟩
  | .hbm, ⟨4, _⟩ => ⟨S32768x4096, .f32⟩
  | .hbm, ⟨5, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S1024x128, .bf16⟩
  | .local _ .vmem, ⟨5, _⟩ => ⟨S512x4096, .f32⟩
  | .local _ .vmem, ⟨6, _⟩ => ⟨S512x4096, .f32⟩
  | .local _ .vmem, ⟨7, _⟩ => ⟨S512x128, .f32⟩
  | .local _ .vmem, ⟨8, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GdnProjReferenceIdeal.lean ====
abbrev S32768x1024 : Shape := ⟨2, ![32768, 1024]⟩
abbrev S1x1024 : Shape := ⟨2, ![1, 1024]⟩
abbrev S1024x4096 : Shape := ⟨2, ![1024, 4096]⟩
abbrev S1024x128 : Shape := ⟨2, ![1024, 128]⟩
abbrev S_ : Shape := ⟨0, ![]⟩
abbrev S32768 : Shape := ⟨1, ![32768]⟩
abbrev S32768x1 : Shape := ⟨2, ![32768, 1]⟩
abbrev S32768x4096 : Shape := ⟨2, ![32768, 4096]⟩
abbrev S32768x128 : Shape := ⟨2, ![32768, 128]⟩

abbrev nBuf : Space → Nat
  | .hbm => 23
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x4096, .bf16⟩
  | .hbm, ⟨3, _⟩ => ⟨S1024x128, .bf16⟩
  | .hbm, ⟨4, _⟩ => ⟨S32768x1024, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S1024x4096, .f32⟩
  | .hbm, ⟨20, _⟩ => ⟨S32768x4096, .f32⟩
  | .hbm, ⟨21, _⟩ => ⟨S1024x128, .f32⟩
  | .hbm, ⟨22, _⟩ => ⟨S32768x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Proof.OutValue.lean ====
/-
  The output projection, residual and squared-ReLU MLP of the last layer, with the final norm: the kernel's result array is the reference's term.
-/
module

public import proofs.«01_k».proof.Proof.Gen.OutMlpIdeal.Frame
public import proofs.«01_k».proof.Proof.Gen.OutMlpIdeal.Value
public import proofs.«01_k».proof.Proof.Gen.OutMlpReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutMlpIdeal.Value

open Cert.OutMlpIdeal Cert.OutMlpIdeal.Gen

variable (m : (ℓ : Loc nD τ sig) → Buf (Elt Ideal) ℓ)

/-- The reference's residual stream after the output projection. -/
abbrev H1 (O : FVec Ideal S32768x1024 .bf16) (H : FVec Ideal S32768x1024 .f32) (W : FVec Ideal S1024x1024 .bf16) :
    FVec Ideal S32768x1024 .f32 :=
  addf H (Host.dotGeneral Cert.OutMlpReferenceIdeal.dot_S32768x1024_S1024x1024_S32768x1024_1_0_0_1_n_n none (extf .f32 O Cert.OutMlpReferenceIdeal.Gen.bitsLt_bf16_f32) (extf .f32 W Cert.OutMlpReferenceIdeal.Gen.bitsLt_bf16_f32))

/-- The reference's RMS norm of an array, scaled by `g`. -/
abbrev NORM (Z : FVec Ideal S32768x1024 .f32) (g : FVec Ideal S1x1024 .f32) : FVec Ideal S32768x1024 .f32 :=
  (mulf (mulf Z (broadcastInDim Cert.OutMlpReferenceIdeal.S32768x1024 ![0, 1] Cert.OutMlpReferenceIdeal.Gen.bcast_S32768x1_S32768x1024_0_1 (Host.rsqrt (addf (Host.divf (broadcastInDim Cert.OutMlpReferenceIdeal.S32768x1 ![0] Cert.OutMlpReferenceIdeal.Gen.bcast_S32768_S32768x1_0 (Host.reduceAdd (mulf Z Z) (constant Cert.OutMlpReferenceIdeal.S_ .f32 0x00000000#32) Cert.OutMlpReferenceIdeal.Gen.reducesTo_S32768x1024_S32768_d1 Cert.OutMlpReferenceIdeal.Gen.h_S_)) (broadcastInDim Cert.OutMlpReferenceIdeal.S32768x1 ![] Cert.OutMlpReferenceIdeal.Gen.bcast_S_S32768x1 (constant Cert.OutMlpReferenceIdeal.S_ .f32 0x44800000#32))) (broadcastInDim Cert.OutMlpReferenceIdeal.S32768x1 ![] Cert.OutMlpReferenceIdeal.Gen.bcast_S_S32768x1 (constant Cert.OutMlpReferenceIdeal.S_ .f32 0x358637BD#32)))))) (broadcastInDim Cert.OutMlpReferenceIdeal.S32768x1024 ![0, 1] Cert.OutMlpReferenceIdeal.Gen.bcast_S1x1024_S32768x1024_0_1 g))

/-- The reference's residual stream after the MLP. -/
abbrev MID (Z : FVec Ideal S32768x1024 .f32) (g : FVec Ideal S1x1024 .f32) (U : FVec Ideal S1024x4096 .bf16)
    (D : FVec Ideal S4096x1024 .bf16) : FVec Ideal S32768x1024 .f32 :=
  addf Z (Host.dotGeneral Cert.OutMlpReferenceIdeal.dot_S32768x4096_S4096x1024_S32768x1024_1_0_0_1_n_n none
    (mulf
      (maximumf (Host.dotGeneral Cert.OutMlpReferenceIdeal.dot_S32768x1024_S1024x4096_S32768x4096_1_0_0_1_n_n none (NORM Z g) (extf .f32 U Cert.OutMlpReferenceIdeal.Gen.bitsLt_bf16_f32)) (broadcastInDim Cert.OutMlpReferenceIdeal.S32768x4096 ![] Cert.OutMlpReferenceIdeal.Gen.bcast_S_S32768x4096 (constant Cert.OutMlpReferenceIdeal.S_ .f32 0x00000000#32)))
      (maximumf (Host.dotGeneral Cert.OutMlpReferenceIdeal.dot_S32768x1024_S1024x4096_S32768x4096_1_0_0_1_n_n none (NORM Z g) (extf .f32 U Cert.OutMlpReferenceIdeal.Gen.bitsLt_bf16_f32)) (broadcastInDim Cert.OutMlpReferenceIdeal.S32768x4096 ![] Cert.OutMlpReferenceIdeal.Gen.bcast_S_S32768x4096 (constant Cert.OutMlpReferenceIdeal.S_ .f32 0x00000000#32))))
    (extf .f32 D Cert.OutMlpReferenceIdeal.Gen.bitsLt_bf16_f32))

/-- The windows' block indices at every grid point. -/
theorem idx : ∀ t : Fin cfg0.N, win0_0.index t = ![t.val, 0] ∧ win0_1.index t = ![t.val, 0] ∧ win0_2.index t = ![0, 0] ∧
    win0_3.index t = ![0, 0] ∧ win0_4.index t = ![0, 0] ∧ win0_5.index t = ![0, 0] ∧ win0_6.index t = ![0, 0] ∧
    win0_7.index t = ![t.val, 0] :=
  (by decide +kernel : ∀ t : Fin grid0.N, _)

/-- Column tile 0 of the up-projection. -/
abbrev up0 (U : Vec Ideal S1024x4096 .bf16) : Vec Ideal S1024x512 .bf16 :=
  View.ld U (Rect.unit (s := S1024x4096) ![0, 0] S1024x512.size inb_S1024x4096_S1024x512_0_0)
/-- Row tile 0 of the down-projection. -/
abbrev dn0 (D : Vec Ideal S4096x1024 .bf16) : Vec Ideal S512x1024 .bf16 :=
  View.ld D (Rect.unit (s := S4096x1024) ![0, 0] S512x1024.size inb_S4096x1024_S512x1024_0_0)
/-- Column tile 1 of the up-projection. -/
abbrev up1 (U : Vec Ideal S1024x4096 .bf16) : Vec Ideal S1024x512 .bf16 :=
  View.ld U (Rect.unit (s := S1024x4096) ![0, 512] S1024x512.size inb_S1024x4096_S1024x512_0_512)
/-- Row tile 1 of the down-projection. -/
abbrev dn1 (D : Vec Ideal S4096x1024 .bf16) : Vec Ideal S512x1024 .bf16 :=
  View.ld D (Rect.unit (s := S4096x1024) ![512, 0] S512x1024.size inb_S4096x1024_S512x1024_512_0)
/-- Column tile 2 of the up-projection. -/
abbrev up2 (U : Vec Ideal S1024x4096 .bf16) : Vec Ideal S1024x512 .bf16 :=
  View.ld U (Rect.unit (s := S1024x4096) ![0, 1024] S1024x512.size inb_S1024x4096_S1024x512_0_1024)
/-- Row tile 2 of the down-projection. -/
abbrev dn2 (D : Vec Ideal S4096x1024 .bf16) : Vec Ideal S512x1024 .bf16 :=
  View.ld D (Rect.unit (s := S4096x1024) ![1024, 0] S512x1024.size inb_S4096x1024_S512x1024_1024_0)
/-- Column tile 3 of the up-projection. -/
abbrev up3 (U : Vec Ideal S1024x4096 .bf16) : Vec Ideal S1024x512 .bf16 :=
  View.ld U (Rect.unit (s := S1024x4096) ![0, 1536] S1024x512.size inb_S1024x4096_S1024x512_0_1536)
/-- Row tile 3 of the down-projection. -/
abbrev dn3 (D : Vec Ideal S4096x1024 .bf16) : Vec Ideal S512x1024 .bf16 :=
  View.ld D (Rect.unit (s := S4096x1024) ![1536, 0] S512x1024.size inb_S4096x1024_S512x1024_1536_0)
/-- Column tile 4 of the up-projection. -/
abbrev up4 (U : Vec Ideal S1024x4096 .bf16) : Vec Ideal S1024x512 .bf16 :=
  View.ld U (Rect.unit (s := S1024x4096) ![0, 2048] S1024x512.size inb_S1024x4096_S1024x512_0_2048)
/-- Row tile 4 of the down-projection. -/
abbrev dn4 (D : Vec Ideal S4096x1024 .bf16) : Vec Ideal S512x1024 .bf16 :=
  View.ld D (Rect.unit (s := S4096x1024) ![2048, 0] S512x1024.size inb_S4096x1024_S512x1024_2048_0)
/-- Column tile 5 of the up-projection. -/
abbrev up5 (U : Vec Ideal S1024x4096 .bf16) : Vec Ideal S1024x512 .bf16 :=
  View.ld U (Rect.unit (s := S1024x4096) ![0, 2560] S1024x512.size inb_S1024x4096_S1024x512_0_2560)
/-- Row tile 5 of the down-projection. -/
abbrev dn5 (D : Vec Ideal S4096x1024 .bf16) : Vec Ideal S512x1024 .bf16 :=
  View.ld D (Rect.unit (s := S4096x1024) ![2560, 0] S512x1024.size inb_S4096x1024_S512x1024_2560_0)
/-- Column tile 6 of the up-projection. -/
abbrev up6 (U : Vec Ideal S1024x4096 .bf16) : Vec Ideal S1024x512 .bf16 :=
  View.ld U (Rect.unit (s := S1024x4096) ![0, 3072] S1024x512.size inb_S1024x4096_S1024x512_0_3072)
/-- Row tile 6 of the down-projection. -/
abbrev dn6 (D : Vec Ideal S4096x1024 .bf16) : Vec Ideal S512x1024 .bf16 :=
  View.ld D (Rect.unit (s := S4096x1024) ![3072, 0] S512x1024.size inb_S4096x1024_S512x1024_3072_0)
/-- Column tile 7 of the up-projection. -/
abbrev up7 (U : Vec Ideal S1024x4096 .bf16) : Vec Ideal S1024x512 .bf16 :=
  View.ld U (Rect.unit (s := S1024x4096) ![0, 3584] S1024x512.size inb_S1024x4096_S1024x512_0_3584)
/-- Row tile 7 of the down-projection. -/
abbrev dn7 (D : Vec Ideal S4096x1024 .bf16) : Vec Ideal S512x1024 .bf16 :=
  View.ld D (Rect.unit (s := S4096x1024) ![3584, 0] S512x1024.size inb_S4096x1024_S512x1024_3584_0)

/-- The kernel's accumulated MLP: eight tiles of the hidden columns added one after another to `A`. -/
def chain (hn : Vec Ideal S512x1024 .bf16) (U : Vec Ideal S1024x4096 .bf16) (D : Vec Ideal S4096x1024 .bf16)
    (A : Vec Ideal S512x1024 .f32) : Vec Ideal S512x1024 .f32 :=
  (k0_pay5 hn (up7 U) (k0_pay5 hn (up6 U) (k0_pay5 hn (up5 U) (k0_pay5 hn (up4 U) (k0_pay5 hn (up3 U) (k0_pay5 hn (up2 U) (k0_pay5 hn (up1 U) (k0_pay5 hn (up0 U) A (dn0 D)) (dn1 D)) (dn2 D)) (dn3 D)) (dn4 D)) (dn5 D)) (dn6 D)) (dn7 D))

/-- One hidden unit's squared-ReLU activation at row `r`. -/
def act (hn : Vec Ideal S512x1024 .bf16) (U : Vec Ideal S1024x4096 .bf16) (r : Fin 512) (f : Fin 4096) : EReal :=
  max (∑ k : Fin 1024, hn (ix2 r k) * U (ix2 k f)) 0 * max (∑ k : Fin 1024, hn (ix2 r k) * U (ix2 k f)) 0

/-- One tile's contribution at an element. -/
theorem step_at (hn : Vec Ideal S512x1024 .bf16) (U : Vec Ideal S1024x4096 .bf16) (D : Vec Ideal S4096x1024 .bf16)
    (W : Vec Ideal S1024x512 .bf16) (A : Vec Ideal S512x1024 .f32) (E : Vec Ideal S512x1024 .bf16) (r : Fin 512) (q : Fin 1024)
    (o : ℕ) (ho : o + 512 ≤ 4096)
    (hW : ∀ (k : Fin 1024) (f : Fin 512), W (ix2 k f) = U (ix2 k ⟨o + f, by omega⟩))
    (hE : ∀ (f : Fin 512), E (ix2 f q) = D (ix2 ⟨o + f, by omega⟩ q)) :
    k0_pay5 (F := Ideal) hn W A E (ix2 r q) =
      A (ix2 r q) + ∑ f : Fin 512, act hn U r ⟨o + f, by omega⟩ * D (ix2 ⟨o + f, by omega⟩ q) := by
  unfold act
  pointwise [k0_pay5]
  simp only [hW, hE]

/-- A sum over 4096 hidden units, tile after tile. -/
theorem sum_tiles (g : Fin 4096 → EReal) (a : EReal) :
    a + ∑ f, g f = ((((((((a + ∑ f : Fin 512, g ⟨0 + f, by omega⟩) + ∑ f : Fin 512, g ⟨512 + f, by omega⟩) +
      ∑ f : Fin 512, g ⟨1024 + f, by omega⟩) + ∑ f : Fin 512, g ⟨1536 + f, by omega⟩) + ∑ f : Fin 512, g ⟨2048 + f, by omega⟩) +
      ∑ f : Fin 512, g ⟨2560 + f, by omega⟩) + ∑ f : Fin 512, g ⟨3072 + f, by omega⟩) + ∑ f : Fin 512, g ⟨3584 + f, by omega⟩) := by
  have e : ∑ f, g f = ∑ p : Fin 8, ∑ f : Fin 512, g ⟨p * 512 + f, by omega⟩ := by
    rw [← Fintype.sum_prod_type']
    refine (Fintype.sum_equiv (finProdFinEquiv (m := 8) (n := 512)) _ _ fun x => ?_).symm
    congr 1
    apply Fin.ext
    simp [finProdFinEquiv]
    ring
  rw [e, Fin.sum_univ_eight]
  simp only [add_assoc]
  rfl

/-- The accumulated MLP at an element. -/
theorem chain_at (hn : Vec Ideal S512x1024 .bf16) (U : Vec Ideal S1024x4096 .bf16) (D : Vec Ideal S4096x1024 .bf16)
    (A : Vec Ideal S512x1024 .f32) (r : Fin 512) (q : Fin 1024) :
    chain hn U D A (ix2 r q) = A (ix2 r q) + ∑ f, act hn U r f * D (ix2 f q) := by
  unfold chain
  rw [step_at hn U D _ _ _ r q 3584 (by omega) (fun k f => by pointwise [up7]; blk_ext) (fun f => by pointwise [dn7]; blk_ext)]
  rw [step_at hn U D _ _ _ r q 3072 (by omega) (fun k f => by pointwise [up6]; blk_ext) (fun f => by pointwise [dn6]; blk_ext)]
  rw [step_at hn U D _ _ _ r q 2560 (by omega) (fun k f => by pointwise [up5]; blk_ext) (fun f => by pointwise [dn5]; blk_ext)]
  rw [step_at hn U D _ _ _ r q 2048 (by omega) (fun k f => by pointwise [up4]; blk_ext) (fun f => by pointwise [dn4]; blk_ext)]
  rw [step_at hn U D _ _ _ r q 1536 (by omega) (fun k f => by pointwise [up3]; blk_ext) (fun f => by pointwise [dn3]; blk_ext)]
  rw [step_at hn U D _ _ _ r q 1024 (by omega) (fun k f => by pointwise [up2]; blk_ext) (fun f => by pointwise [dn2]; blk_ext)]
  rw [step_at hn U D _ _ _ r q 512 (by omega) (fun k f => by pointwise [up1]; blk_ext) (fun f => by pointwise [dn1]; blk_ext)]
  rw [step_at hn U D _ _ _ r q 0 (by omega) (fun k f => by pointwise [up0]; blk_ext) (fun f => by pointwise [dn0]; blk_ext)]
  exact (sum_tiles (fun f => act hn U r f * D (ix2 f q)) _).symm

theorem al_6 : @k0_pay6 Ideal _ = k0_pay5 := rfl
theorem al_9 : @k0_pay9 Ideal _ = k0_pay5 := rfl
theorem al_10 : @k0_pay10 Ideal _ = k0_pay5 := rfl
theorem al_11 : @k0_pay11 Ideal _ = k0_pay5 := rfl
theorem al_12 : @k0_pay12 Ideal _ = k0_pay5 := rfl
theorem al_first (a b c d e f g) : k0_pay4 (F := Ideal) a b c d e f g = k0_pay5 (k0_pay3 a b c d) e f g := rfl
theorem al_split (a b c d) : k0_pay8 (F := Ideal) (k0_pay7 a b) c d = k0_pay5 a b c d := rfl

/-- What a grid point leaves in the output block: the final norm of the accumulated MLP. -/
theorem outs_eq (c : Dev nD) (t : Fin cfg0.N) (y : S512x1024.Idx) :
    outsAt0 m c t y = k0_pay1 (k0_pay13 (chain (k0_pay3 (iblk m c 1 t) (iblk m c 0 t) (iblk m c 2 t) (iblk m c 3 t)) (iblk m c 4 t) (iblk m c 5 t) (k0_pay2 (iblk m c 1 t) (iblk m c 0 t) (iblk m c 2 t)))) (k0_pay14 (chain (k0_pay3 (iblk m c 1 t) (iblk m c 0 t) (iblk m c 2 t) (iblk m c 3 t)) (iblk m c 4 t) (iblk m c 5 t) (k0_pay2 (iblk m c 1 t) (iblk m c 0 t) (iblk m c 2 t)))) (FloatOps.ofBits FTy.f32 897988541#32) (iblk m c 6 t) y := by
  unfold outsAt0
  frame_out
  simp only [al_6, al_9, al_10, al_11, al_12, al_first, al_split]
  unfold chain
  rfl

/-- The residual stream after the MLP at an element of a point's block is the reference's at its place. -/
theorem mid_at (c : Dev nD) (t : Fin cfg0.N) (r : Fin 512) (q : Fin 1024) (j : Fin 32768) (hj : (j : ℕ) = t.val * 512 + r) :
    chain (k0_pay3 (iblk m c 1 t) (iblk m c 0 t) (iblk m c 2 t) (iblk m c 3 t)) (iblk m c 4 t) (iblk m c 5 t) (k0_pay2 (iblk m c 1 t) (iblk m c 0 t) (iblk m c 2 t)) (ix2 r q) =
      MID (H1 (m ((c : Thread nD τ).loc main_arg0)) (m ((c : Thread nD τ).loc main_arg1)) (m ((c : Thread nD τ).loc main_arg2)))
        (m ((c : Thread nD τ).loc main_arg3)) (m ((c : Thread nD τ).loc main_arg4)) (m ((c : Thread nD τ).loc main_arg5)) (ix2 j q) := by
  refine (chain_at _ _ _ _ r q).trans ?_
  unfold act
  pointwise [k0_pay3, k0_pay2, MID, NORM, H1]
  blk_point [iblk, V, idx t]

/-- The kernel's norm and the reference's agree at an element when the rows agree. -/
theorem norm_at (Y : Vec Ideal S512x1024 .f32) (g : Vec Ideal S1x1024 .f32) (Z : FVec Ideal S32768x1024 .f32)
    (r : Fin 512) (q : Fin 1024) (j : Fin 32768) (h : ∀ k : Fin 1024, Y (ix2 r k) = Z (ix2 j k)) :
    k0_pay1 (F := Ideal) (k0_pay13 Y) (k0_pay14 Y) (FloatOps.ofBits FTy.f32 897988541#32) g (ix2 r q) = NORM Z g (ix2 j q) := by
  pointwise [k0_pay1, k0_pay13, k0_pay14, NORM]
  simp only [h]

/-- The kernel's result array is the reference's. -/
theorem final (c : Dev nD) : (dats m 0 c).arrAt 7 (cfgs 0).N =
    NORM (MID (H1 (m ((c : Thread nD τ).loc main_arg0)) (m ((c : Thread nD τ).loc main_arg1)) (m ((c : Thread nD τ).loc main_arg2))) (m ((c : Thread nD τ).loc main_arg3)) (m ((c : Thread nD τ).loc main_arg4)) (m ((c : Thread nD τ).loc main_arg5))) (m ((c : Thread nD τ).loc main_arg6)) := by
  refine (dats m 0 c).arrAt_eq_of_covers 7 _ (by decide +kernel) fun t _ y => ?_
  blk_simp
  rw [after0_7, outs_eq]
  obtain ⟨r, q, rfl⟩ : ∃ (r : Fin 512) (q : Fin 1024), y = ix2 r q := ⟨y 0, y 1, (ix2_eta y).symm⟩
  have ht : t.val < 64 := lt_of_lt_of_eq t.isLt N_0
  have hj : ((cfg0.win 7).blk t).view.emb (ix2 r q) = ix2 (⟨t.val * 512 + r, by omega⟩ : Fin 32768) q := by
    blk_ext [idx t]
  rw [hj]
  have h6 : iblk m c 6 t = m ((c : Thread nD τ).loc main_arg6) := by blk_ext! [iblk, V, idx t]
  rw [h6]
  exact norm_at _ _ _ r q _ fun k => mid_at m c t r k _ rfl

end Cert.OutMlpIdeal.Value

end
-- ==== Proof.MidValue.lean ====
/-
  The output projection, residual and squared-ReLU MLP of the first layer: the kernel's result array is the reference's term.
-/
module

public import proofs.«01_k».proof.Proof.Gen.MidMlpIdeal.Frame
public import proofs.«01_k».proof.Proof.Gen.MidMlpIdeal.Value
public import proofs.«01_k».proof.Proof.Gen.MidMlpReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MidMlpIdeal.Value

open Cert.MidMlpIdeal Cert.MidMlpIdeal.Gen

variable (m : (ℓ : Loc nD τ sig) → Buf (Elt Ideal) ℓ)

/-- The reference's residual stream after the output projection. -/
abbrev H1 (O : FVec Ideal S32768x1024 .bf16) (H : FVec Ideal S32768x1024 .f32) (W : FVec Ideal S1024x1024 .bf16) :
    FVec Ideal S32768x1024 .f32 :=
  addf H (Host.dotGeneral Cert.MidMlpReferenceIdeal.dot_S32768x1024_S1024x1024_S32768x1024_1_0_0_1_n_n none (extf .f32 O Cert.MidMlpReferenceIdeal.Gen.bitsLt_bf16_f32) (extf .f32 W Cert.MidMlpReferenceIdeal.Gen.bitsLt_bf16_f32))

/-- The reference's RMS norm of an array, scaled by `g`. -/
abbrev NORM (Z : FVec Ideal S32768x1024 .f32) (g : FVec Ideal S1x1024 .f32) : FVec Ideal S32768x1024 .f32 :=
  (mulf (mulf Z (broadcastInDim Cert.MidMlpReferenceIdeal.S32768x1024 ![0, 1] Cert.MidMlpReferenceIdeal.Gen.bcast_S32768x1_S32768x1024_0_1 (Host.rsqrt (addf (Host.divf (broadcastInDim Cert.MidMlpReferenceIdeal.S32768x1 ![0] Cert.MidMlpReferenceIdeal.Gen.bcast_S32768_S32768x1_0 (Host.reduceAdd (mulf Z Z) (constant Cert.MidMlpReferenceIdeal.S_ .f32 0x00000000#32) Cert.MidMlpReferenceIdeal.Gen.reducesTo_S32768x1024_S32768_d1 Cert.MidMlpReferenceIdeal.Gen.h_S_)) (broadcastInDim Cert.MidMlpReferenceIdeal.S32768x1 ![] Cert.MidMlpReferenceIdeal.Gen.bcast_S_S32768x1 (constant Cert.MidMlpReferenceIdeal.S_ .f32 0x44800000#32))) (broadcastInDim Cert.MidMlpReferenceIdeal.S32768x1 ![] Cert.MidMlpReferenceIdeal.Gen.bcast_S_S32768x1 (constant Cert.MidMlpReferenceIdeal.S_ .f32 0x358637BD#32)))))) (broadcastInDim Cert.MidMlpReferenceIdeal.S32768x1024 ![0, 1] Cert.MidMlpReferenceIdeal.Gen.bcast_S1x1024_S32768x1024_0_1 g))

/-- The reference's residual stream after the MLP. -/
abbrev MID (Z : FVec Ideal S32768x1024 .f32) (g : FVec Ideal S1x1024 .f32) (U : FVec Ideal S1024x4096 .bf16)
    (D : FVec Ideal S4096x1024 .bf16) : FVec Ideal S32768x1024 .f32 :=
  addf Z (Host.dotGeneral Cert.MidMlpReferenceIdeal.dot_S32768x4096_S4096x1024_S32768x1024_1_0_0_1_n_n none
    (mulf
      (maximumf (Host.dotGeneral Cert.MidMlpReferenceIdeal.dot_S32768x1024_S1024x4096_S32768x4096_1_0_0_1_n_n none (NORM Z g) (extf .f32 U Cert.MidMlpReferenceIdeal.Gen.bitsLt_bf16_f32)) (broadcastInDim Cert.MidMlpReferenceIdeal.S32768x4096 ![] Cert.MidMlpReferenceIdeal.Gen.bcast_S_S32768x4096 (constant Cert.MidMlpReferenceIdeal.S_ .f32 0x00000000#32)))
      (maximumf (Host.dotGeneral Cert.MidMlpReferenceIdeal.dot_S32768x1024_S1024x4096_S32768x4096_1_0_0_1_n_n none (NORM Z g) (extf .f32 U Cert.MidMlpReferenceIdeal.Gen.bitsLt_bf16_f32)) (broadcastInDim Cert.MidMlpReferenceIdeal.S32768x4096 ![] Cert.MidMlpReferenceIdeal.Gen.bcast_S_S32768x4096 (constant Cert.MidMlpReferenceIdeal.S_ .f32 0x00000000#32))))
    (extf .f32 D Cert.MidMlpReferenceIdeal.Gen.bitsLt_bf16_f32))

/-- The windows' block indices at every grid point. -/
theorem idx : ∀ t : Fin cfg0.N, win0_0.index t = ![t.val, 0] ∧ win0_1.index t = ![t.val, 0] ∧ win0_2.index t = ![0, 0] ∧
    win0_3.index t = ![0, 0] ∧ win0_4.index t = ![0, 0] ∧ win0_5.index t = ![0, 0] ∧ win0_6.index t = ![0, 0] ∧
    win0_7.index t = ![t.val, 0] :=
  (by decide +kernel : ∀ t : Fin grid0.N, _)

/-- Column tile 0 of the up-projection. -/
abbrev up0 (U : Vec Ideal S1024x4096 .bf16) : Vec Ideal S1024x512 .bf16 :=
  View.ld U (Rect.unit (s := S1024x4096) ![0, 0] S1024x512.size inb_S1024x4096_S1024x512_0_0)
/-- Row tile 0 of the down-projection. -/
abbrev dn0 (D : Vec Ideal S4096x1024 .bf16) : Vec Ideal S512x1024 .bf16 :=
  View.ld D (Rect.unit (s := S4096x1024) ![0, 0] S512x1024.size inb_S4096x1024_S512x1024_0_0)
/-- Column tile 1 of the up-projection. -/
abbrev up1 (U : Vec Ideal S1024x4096 .bf16) : Vec Ideal S1024x512 .bf16 :=
  View.ld U (Rect.unit (s := S1024x4096) ![0, 512] S1024x512.size inb_S1024x4096_S1024x512_0_512)
/-- Row tile 1 of the down-projection. -/
abbrev dn1 (D : Vec Ideal S4096x1024 .bf16) : Vec Ideal S512x1024 .bf16 :=
  View.ld D (Rect.unit (s := S4096x1024) ![512, 0] S512x1024.size inb_S4096x1024_S512x1024_512_0)
/-- Column tile 2 of the up-projection. -/
abbrev up2 (U : Vec Ideal S1024x4096 .bf16) : Vec Ideal S1024x512 .bf16 :=
  View.ld U (Rect.unit (s := S1024x4096) ![0, 1024] S1024x512.size inb_S1024x4096_S1024x512_0_1024)
/-- Row tile 2 of the down-projection. -/
abbrev dn2 (D : Vec Ideal S4096x1024 .bf16) : Vec Ideal S512x1024 .bf16 :=
  View.ld D (Rect.unit (s := S4096x1024) ![1024, 0] S512x1024.size inb_S4096x1024_S512x1024_1024_0)
/-- Column tile 3 of the up-projection. -/
abbrev up3 (U : Vec Ideal S1024x4096 .bf16) : Vec Ideal S1024x512 .bf16 :=
  View.ld U (Rect.unit (s := S1024x4096) ![0, 1536] S1024x512.size inb_S1024x4096_S1024x512_0_1536)
/-- Row tile 3 of the down-projection. -/
abbrev dn3 (D : Vec Ideal S4096x1024 .bf16) : Vec Ideal S512x1024 .bf16 :=
  View.ld D (Rect.unit (s := S4096x1024) ![1536, 0] S512x1024.size inb_S4096x1024_S512x1024_1536_0)
/-- Column tile 4 of the up-projection. -/
abbrev up4 (U : Vec Ideal S1024x4096 .bf16) : Vec Ideal S1024x512 .bf16 :=
  View.ld U (Rect.unit (s := S1024x4096) ![0, 2048] S1024x512.size inb_S1024x4096_S1024x512_0_2048)
/-- Row tile 4 of the down-projection. -/
abbrev dn4 (D : Vec Ideal S4096x1024 .bf16) : Vec Ideal S512x1024 .bf16 :=
  View.ld D (Rect.unit (s := S4096x1024) ![2048, 0] S512x1024.size inb_S4096x1024_S512x1024_2048_0)
/-- Column tile 5 of the up-projection. -/
abbrev up5 (U : Vec Ideal S1024x4096 .bf16) : Vec Ideal S1024x512 .bf16 :=
  View.ld U (Rect.unit (s := S1024x4096) ![0, 2560] S1024x512.size inb_S1024x4096_S1024x512_0_2560)
/-- Row tile 5 of the down-projection. -/
abbrev dn5 (D : Vec Ideal S4096x1024 .bf16) : Vec Ideal S512x1024 .bf16 :=
  View.ld D (Rect.unit (s := S4096x1024) ![2560, 0] S512x1024.size inb_S4096x1024_S512x1024_2560_0)
/-- Column tile 6 of the up-projection. -/
abbrev up6 (U : Vec Ideal S1024x4096 .bf16) : Vec Ideal S1024x512 .bf16 :=
  View.ld U (Rect.unit (s := S1024x4096) ![0, 3072] S1024x512.size inb_S1024x4096_S1024x512_0_3072)
/-- Row tile 6 of the down-projection. -/
abbrev dn6 (D : Vec Ideal S4096x1024 .bf16) : Vec Ideal S512x1024 .bf16 :=
  View.ld D (Rect.unit (s := S4096x1024) ![3072, 0] S512x1024.size inb_S4096x1024_S512x1024_3072_0)
/-- Column tile 7 of the up-projection. -/
abbrev up7 (U : Vec Ideal S1024x4096 .bf16) : Vec Ideal S1024x512 .bf16 :=
  View.ld U (Rect.unit (s := S1024x4096) ![0, 3584] S1024x512.size inb_S1024x4096_S1024x512_0_3584)
/-- Row tile 7 of the down-projection. -/
abbrev dn7 (D : Vec Ideal S4096x1024 .bf16) : Vec Ideal S512x1024 .bf16 :=
  View.ld D (Rect.unit (s := S4096x1024) ![3584, 0] S512x1024.size inb_S4096x1024_S512x1024_3584_0)

/-- The kernel's accumulated MLP: eight tiles of the hidden columns added one after another to `A`. -/
def chain (hn : Vec Ideal S512x1024 .bf16) (U : Vec Ideal S1024x4096 .bf16) (D : Vec Ideal S4096x1024 .bf16)
    (A : Vec Ideal S512x1024 .f32) : Vec Ideal S512x1024 .f32 :=
  (k0_pay6 hn (up7 U) (k0_pay6 hn (up6 U) (k0_pay6 hn (up5 U) (k0_pay6 hn (up4 U) (k0_pay6 hn (up3 U) (k0_pay6 hn (up2 U) (k0_pay6 hn (up1 U) (k0_pay6 hn (up0 U) A (dn0 D)) (dn1 D)) (dn2 D)) (dn3 D)) (dn4 D)) (dn5 D)) (dn6 D)) (dn7 D))

/-- One hidden unit's squared-ReLU activation at row `r`. -/
def act (hn : Vec Ideal S512x1024 .bf16) (U : Vec Ideal S1024x4096 .bf16) (r : Fin 512) (f : Fin 4096) : EReal :=
  max (∑ k : Fin 1024, hn (ix2 r k) * U (ix2 k f)) 0 * max (∑ k : Fin 1024, hn (ix2 r k) * U (ix2 k f)) 0

/-- One tile's contribution at an element. -/
theorem step_at (hn : Vec Ideal S512x1024 .bf16) (U : Vec Ideal S1024x4096 .bf16) (D : Vec Ideal S4096x1024 .bf16)
    (W : Vec Ideal S1024x512 .bf16) (A : Vec Ideal S512x1024 .f32) (E : Vec Ideal S512x1024 .bf16) (r : Fin 512) (q : Fin 1024)
    (o : ℕ) (ho : o + 512 ≤ 4096)
    (hW : ∀ (k : Fin 1024) (f : Fin 512), W (ix2 k f) = U (ix2 k ⟨o + f, by omega⟩))
    (hE : ∀ (f : Fin 512), E (ix2 f q) = D (ix2 ⟨o + f, by omega⟩ q)) :
    k0_pay6 (F := Ideal) hn W A E (ix2 r q) =
      A (ix2 r q) + ∑ f : Fin 512, act hn U r ⟨o + f, by omega⟩ * D (ix2 ⟨o + f, by omega⟩ q) := by
  unfold act
  pointwise [k0_pay6]
  simp only [hW, hE]

/-- A sum over 4096 hidden units, tile after tile. -/
theorem sum_tiles (g : Fin 4096 → EReal) (a : EReal) :
    a + ∑ f, g f = ((((((((a + ∑ f : Fin 512, g ⟨0 + f, by omega⟩) + ∑ f : Fin 512, g ⟨512 + f, by omega⟩) +
      ∑ f : Fin 512, g ⟨1024 + f, by omega⟩) + ∑ f : Fin 512, g ⟨1536 + f, by omega⟩) + ∑ f : Fin 512, g ⟨2048 + f, by omega⟩) +
      ∑ f : Fin 512, g ⟨2560 + f, by omega⟩) + ∑ f : Fin 512, g ⟨3072 + f, by omega⟩) + ∑ f : Fin 512, g ⟨3584 + f, by omega⟩) := by
  have e : ∑ f, g f = ∑ p : Fin 8, ∑ f : Fin 512, g ⟨p * 512 + f, by omega⟩ := by
    rw [← Fintype.sum_prod_type']
    refine (Fintype.sum_equiv (finProdFinEquiv (m := 8) (n := 512)) _ _ fun x => ?_).symm
    congr 1
    apply Fin.ext
    simp [finProdFinEquiv]
    ring
  rw [e, Fin.sum_univ_eight]
  simp only [add_assoc]
  rfl

/-- The accumulated MLP at an element. -/
theorem chain_at (hn : Vec Ideal S512x1024 .bf16) (U : Vec Ideal S1024x4096 .bf16) (D : Vec Ideal S4096x1024 .bf16)
    (A : Vec Ideal S512x1024 .f32) (r : Fin 512) (q : Fin 1024) :
    chain hn U D A (ix2 r q) = A (ix2 r q) + ∑ f, act hn U r f * D (ix2 f q) := by
  unfold chain
  rw [step_at hn U D _ _ _ r q 3584 (by omega) (fun k f => by pointwise [up7]; blk_ext) (fun f => by pointwise [dn7]; blk_ext)]
  rw [step_at hn U D _ _ _ r q 3072 (by omega) (fun k f => by pointwise [up6]; blk_ext) (fun f => by pointwise [dn6]; blk_ext)]
  rw [step_at hn U D _ _ _ r q 2560 (by omega) (fun k f => by pointwise [up5]; blk_ext) (fun f => by pointwise [dn5]; blk_ext)]
  rw [step_at hn U D _ _ _ r q 2048 (by omega) (fun k f => by pointwise [up4]; blk_ext) (fun f => by pointwise [dn4]; blk_ext)]
  rw [step_at hn U D _ _ _ r q 1536 (by omega) (fun k f => by pointwise [up3]; blk_ext) (fun f => by pointwise [dn3]; blk_ext)]
  rw [step_at hn U D _ _ _ r q 1024 (by omega) (fun k f => by pointwise [up2]; blk_ext) (fun f => by pointwise [dn2]; blk_ext)]
  rw [step_at hn U D _ _ _ r q 512 (by omega) (fun k f => by pointwise [up1]; blk_ext) (fun f => by pointwise [dn1]; blk_ext)]
  rw [step_at hn U D _ _ _ r q 0 (by omega) (fun k f => by pointwise [up0]; blk_ext) (fun f => by pointwise [dn0]; blk_ext)]
  exact (sum_tiles (fun f => act hn U r f * D (ix2 f q)) _).symm

theorem al_1 : @k0_pay1 Ideal _ = k0_pay6 := rfl
theorem al_2 : @k0_pay2 Ideal _ = k0_pay6 := rfl
theorem al_7 : @k0_pay7 Ideal _ = k0_pay6 := rfl
theorem al_10 : @k0_pay10 Ideal _ = k0_pay6 := rfl
theorem al_11 : @k0_pay11 Ideal _ = k0_pay6 := rfl
theorem al_first (a b c d e f g) : k0_pay5 (F := Ideal) a b c d e f g = k0_pay6 (k0_pay4 a b c d) e f g := rfl
theorem al_split (a b c d) : k0_pay9 (F := Ideal) (k0_pay8 a b) c d = k0_pay6 a b c d := rfl

/-- What a grid point leaves in the output block: the accumulated MLP. -/
theorem outs_eq (c : Dev nD) (t : Fin cfg0.N) (y : S512x1024.Idx) :
    outsAt0 m c t y = chain (k0_pay4 (iblk m c 1 t) (iblk m c 0 t) (iblk m c 2 t) (iblk m c 3 t)) (iblk m c 4 t) (iblk m c 5 t) (k0_pay3 (iblk m c 1 t) (iblk m c 0 t) (iblk m c 2 t)) y := by
  unfold outsAt0
  frame_out
  simp only [al_1, al_2, al_7, al_10, al_11, al_first, al_split]
  unfold chain
  rfl

/-- The residual stream after the MLP at an element of a point's block is the reference's at its place. -/
theorem mid_at (c : Dev nD) (t : Fin cfg0.N) (r : Fin 512) (q : Fin 1024) (j : Fin 32768) (hj : (j : ℕ) = t.val * 512 + r) :
    chain (k0_pay4 (iblk m c 1 t) (iblk m c 0 t) (iblk m c 2 t) (iblk m c 3 t)) (iblk m c 4 t) (iblk m c 5 t) (k0_pay3 (iblk m c 1 t) (iblk m c 0 t) (iblk m c 2 t)) (ix2 r q) =
      MID (H1 (m ((c : Thread nD τ).loc main_arg0)) (m ((c : Thread nD τ).loc main_arg1)) (m ((c : Thread nD τ).loc main_arg2)))
        (m ((c : Thread nD τ).loc main_arg3)) (m ((c : Thread nD τ).loc main_arg4)) (m ((c : Thread nD τ).loc main_arg5)) (ix2 j q) := by
  refine (chain_at _ _ _ _ r q).trans ?_
  unfold act
  pointwise [k0_pay4, k0_pay3, MID, NORM, H1]
  blk_point [iblk, V, idx t]

/-- The kernel's result array is the reference's. -/
theorem final (c : Dev nD) : (dats m 0 c).arrAt 7 (cfgs 0).N =
    MID (H1 (m ((c : Thread nD τ).loc main_arg0)) (m ((c : Thread nD τ).loc main_arg1)) (m ((c : Thread nD τ).loc main_arg2))) (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7, outs_eq]
  obtain ⟨r, q, rfl⟩ : ∃ (r : Fin 512) (q : Fin 1024), y = ix2 r q := ⟨y 0, y 1, (ix2_eta y).symm⟩
  have ht : t.val < 64 := lt_of_lt_of_eq t.isLt N_0
  have hj : ((cfg0.win 7).blk t).view.emb (ix2 r q) = ix2 (⟨t.val * 512 + r, by omega⟩ : Fin 32768) q := by
    blk_ext [idx t]
  rw [hj]
  exact mid_at m c t r q _ rfl

end Cert.MidMlpIdeal.Value

end
-- ==== Proof.QkvValue.lean ====
/-
  The normed input projection of the MoBA layer: the kernel's result array is the reference's term.
-/
module

public import proofs.«01_k».proof.Proof.Gen.QkvProjIdeal.Frame
public import proofs.«01_k».proof.Proof.Gen.QkvProjIdeal.Value
public import proofs.«01_k».proof.Proof.Gen.QkvProjReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.QkvProjIdeal.Value

open Cert.QkvProjIdeal Cert.QkvProjIdeal.Gen

variable (m : (ℓ : Loc nD τ sig) → Buf (Elt Ideal) ℓ)

/-- The reference's projection: the RMS-normed rows `X`, scaled by `g`, times the weights `W`. -/
abbrev REF (X : FVec Ideal S32768x1024 .f32) (g : FVec Ideal S1x1024 .f32) (W : FVec Ideal S1024x3072 .bf16) :
    FVec Ideal S32768x3072 .bf16 :=
  truncf .bf16 (Host.dotGeneral Cert.QkvProjReferenceIdeal.dot_S32768x1024_S1024x3072_S32768x3072_1_0_0_1_n_n none (mulf (mulf X (broadcastInDim Cert.QkvProjReferenceIdeal.S32768x1024 ![0, 1] Cert.QkvProjReferenceIdeal.Gen.bcast_S32768x1_S32768x1024_0_1 (Host.rsqrt (addf (Host.divf (broadcastInDim Cert.QkvProjReferenceIdeal.S32768x1 ![0] Cert.QkvProjReferenceIdeal.Gen.bcast_S32768_S32768x1_0 (Host.reduceAdd (mulf X X) (constant Cert.QkvProjReferenceIdeal.S_ .f32 0x00000000#32) Cert.QkvProjReferenceIdeal.Gen.reducesTo_S32768x1024_S32768_d1 Cert.QkvProjReferenceIdeal.Gen.h_S_)) (broadcastInDim Cert.QkvProjReferenceIdeal.S32768x1 ![] Cert.QkvProjReferenceIdeal.Gen.bcast_S_S32768x1 (constant Cert.QkvProjReferenceIdeal.S_ .f32 0x44800000#32))) (broadcastInDim Cert.QkvProjReferenceIdeal.S32768x1 ![] Cert.QkvProjReferenceIdeal.Gen.bcast_S_S32768x1 (constant Cert.QkvProjReferenceIdeal.S_ .f32 0x358637BD#32)))))) (broadcastInDim Cert.QkvProjReferenceIdeal.S32768x1024 ![0, 1] Cert.QkvProjReferenceIdeal.Gen.bcast_S1x1024_S32768x1024_0_1 g)) (extf .f32 W Cert.QkvProjReferenceIdeal.Gen.bitsLt_bf16_f32)) Cert.QkvProjReferenceIdeal.Gen.bitsLt_bf16_f32

/-- The windows' block indices at every grid point. -/
theorem idx : ∀ t : Fin cfg0.N, win0_0.index t = ![t.val, 0] ∧ win0_1.index t = ![0, 0] ∧ win0_2.index t = ![0, 0] ∧
    win0_3.index t = ![t.val, 0] :=
  (by decide +kernel : ∀ t : Fin grid0.N, _)

/-- One column tile of a point's product is the reference's product at the place of that tile. -/
theorem core (c : Dev nD) (t : Fin cfg0.N) (W : FVec Ideal S1024x512 .bf16) (x : S512x512.Idx)
    (j : S32768x3072.Idx) (hj0 : (j 0 : ℕ) = t.val * 512 + x 0)
    (hW : ∀ k : Fin 1024, W (ix2 k (x 1)) = m ((c : Thread nD τ).loc main_arg2) (ix2 k (j 1))) :
    k0_pay1 (F := Ideal) (k0_pay3 (F := Ideal) (iblk m c 0 t) (iblk m c 1 t)) W x =
      REF (m ((c : Thread nD τ).loc main_arg0)) (m ((c : Thread nD τ).loc main_arg1)) (m ((c : Thread nD τ).loc main_arg2)) j := by
  idx_vars x
  idx_vars j
  pointwise [k0_pay1, k0_pay3, REF]
  simp only [hW]
  blk_point [iblk, V, idx t]

theorem hz : (![0, 0] : Fin 2 → Nat) = fun _ => 0 := funext fun a => by fin_cases a <;> rfl

/-- A point's stores: six column tiles of one product. -/
theorem pieces (X0 : Vec Ideal S512x1024 .f32) (X1 : Vec Ideal S1x1024 .f32) (X2 : Vec Ideal S1024x3072 .bf16) :
    out0_3 (F := Ideal) X0 X1 X2 =
      View.canon [⟨r0_13, k0_pay1 (k0_pay3 X0 X1) (View.ld X2 r0_12)⟩, ⟨r0_11, k0_pay1 (k0_pay3 X0 X1) (View.ld X2 r0_10)⟩,
        ⟨r0_9, k0_pay1 (k0_pay3 X0 X1) (View.ld X2 r0_8)⟩, ⟨r0_7, k0_pay1 (k0_pay3 X0 X1) (View.ld X2 r0_6)⟩,
        ⟨r0_5, k0_pay1 (k0_pay3 X0 X1) (View.ld X2 r0_4)⟩, ⟨r0_3, k0_pay1 (k0_pay3 X0 X1) (View.ld X2 r0_2)⟩] := by
  have e0 : View.ld X0 r0_0 = X0 := View.ld_unit_zero (S := S512x1024) hz _ X0
  have e1 : View.ld X1 r0_1 = X1 := View.ld_unit_zero (S := S1x1024) hz _ X1
  unfold out0_3 k0_pay8
  rw [e0, e1]
  rfl

/-- The stored block of a point is the reference's block. -/
theorem point (c : Dev nD) (t : Fin cfg0.N) (y : S512x3072.Idx) :
    out0_3 (F := Ideal) (iblk m c 0 t) (iblk m c 1 t) (iblk m c 2 t) y =
      REF (m ((c : Thread nD τ).loc main_arg0)) (m ((c : Thread nD τ).loc main_arg1)) (m ((c : Thread nD τ).loc main_arg2))
        (((cfg0.win 3).blk t).view.emb y) := by
  rw [pieces]
  canon_tiles x h
  all_goals
    refine core m c t _ x _ ?_ ?_
    · blk_simp [idx t]; omega
    · intro k
      pointwise
      blk_ext [iblk, V, idx t]

/-- The kernel's result array is the reference's. -/
theorem final (c : Dev nD) : (dats m 0 c).arrAt 3 (cfgs 0).N =
    REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point m c t y

end Cert.QkvProjIdeal.Value

end
-- ==== Proof.GdnValue.lean ====
/-
  The normed input projection of the gated DeltaNet layer: the kernel's result arrays are the reference's terms.
-/
module

public import proofs.«01_k».proof.Proof.Gen.GdnProjIdeal.Frame
public import proofs.«01_k».proof.Proof.Gen.GdnProjIdeal.Value
public import proofs.«01_k».proof.Proof.Gen.GdnProjReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.GdnProjIdeal.Value

open Cert.GdnProjIdeal Cert.GdnProjIdeal.Gen

variable (m : (ℓ : Loc nD τ sig) → Buf (Elt Ideal) ℓ)

/-- The reference's projection to the queries, keys, values and output gate. -/
abbrev REF4 (X : FVec Ideal S32768x1024 .f32) (g : FVec Ideal S1x1024 .f32) (W : FVec Ideal S1024x4096 .bf16) :
    FVec Ideal S32768x4096 .f32 :=
  Host.dotGeneral Cert.GdnProjReferenceIdeal.dot_S32768x1024_S1024x4096_S32768x4096_1_0_0_1_n_n none (mulf (mulf X (broadcastInDim Cert.GdnProjReferenceIdeal.S32768x1024 ![0, 1] Cert.GdnProjReferenceIdeal.Gen.bcast_S32768x1_S32768x1024_0_1 (Host.rsqrt (addf (Host.divf (broadcastInDim Cert.GdnProjReferenceIdeal.S32768x1 ![0] Cert.GdnProjReferenceIdeal.Gen.bcast_S32768_S32768x1_0 (Host.reduceAdd (mulf X X) (constant Cert.GdnProjReferenceIdeal.S_ .f32 0x00000000#32) Cert.GdnProjReferenceIdeal.Gen.reducesTo_S32768x1024_S32768_d1 Cert.GdnProjReferenceIdeal.Gen.h_S_)) (broadcastInDim Cert.GdnProjReferenceIdeal.S32768x1 ![] Cert.GdnProjReferenceIdeal.Gen.bcast_S_S32768x1 (constant Cert.GdnProjReferenceIdeal.S_ .f32 0x44800000#32))) (broadcastInDim Cert.GdnProjReferenceIdeal.S32768x1 ![] Cert.GdnProjReferenceIdeal.Gen.bcast_S_S32768x1 (constant Cert.GdnProjReferenceIdeal.S_ .f32 0x358637BD#32)))))) (broadcastInDim Cert.GdnProjReferenceIdeal.S32768x1024 ![0, 1] Cert.GdnProjReferenceIdeal.Gen.bcast_S1x1024_S32768x1024_0_1 g)) (extf .f32 W Cert.GdnProjReferenceIdeal.Gen.bitsLt_bf16_f32)

/-- The reference's projection to the 128 padded decay and write-strength columns. -/
abbrev REF5 (X : FVec Ideal S32768x1024 .f32) (g : FVec Ideal S1x1024 .f32) (W : FVec Ideal S1024x128 .bf16) :
    FVec Ideal S32768x128 .f32 :=
  Host.dotGeneral Cert.GdnProjReferenceIdeal.dot_S32768x1024_S1024x128_S32768x128_1_0_0_1_n_n none (mulf (mulf X (broadcastInDim Cert.GdnProjReferenceIdeal.S32768x1024 ![0, 1] Cert.GdnProjReferenceIdeal.Gen.bcast_S32768x1_S32768x1024_0_1 (Host.rsqrt (addf (Host.divf (broadcastInDim Cert.GdnProjReferenceIdeal.S32768x1 ![0] Cert.GdnProjReferenceIdeal.Gen.bcast_S32768_S32768x1_0 (Host.reduceAdd (mulf X X) (constant Cert.GdnProjReferenceIdeal.S_ .f32 0x00000000#32) Cert.GdnProjReferenceIdeal.Gen.reducesTo_S32768x1024_S32768_d1 Cert.GdnProjReferenceIdeal.Gen.h_S_)) (broadcastInDim Cert.GdnProjReferenceIdeal.S32768x1 ![] Cert.GdnProjReferenceIdeal.Gen.bcast_S_S32768x1 (constant Cert.GdnProjReferenceIdeal.S_ .f32 0x44800000#32))) (broadcastInDim Cert.GdnProjReferenceIdeal.S32768x1 ![] Cert.GdnProjReferenceIdeal.Gen.bcast_S_S32768x1 (constant Cert.GdnProjReferenceIdeal.S_ .f32 0x358637BD#32)))))) (broadcastInDim Cert.GdnProjReferenceIdeal.S32768x1024 ![0, 1] Cert.GdnProjReferenceIdeal.Gen.bcast_S1x1024_S32768x1024_0_1 g)) (extf .f32 W Cert.GdnProjReferenceIdeal.Gen.bitsLt_bf16_f32)

/-- The windows' block indices at every grid point. -/
theorem idx : ∀ t : Fin cfg0.N, win0_0.index t = ![t.val, 0] ∧ win0_1.index t = ![0, 0] ∧ win0_2.index t = ![0, 0] ∧
    win0_3.index t = ![0, 0] ∧ win0_4.index t = ![t.val, 0] ∧ win0_5.index t = ![t.val, 0] :=
  (by decide +kernel : ∀ t : Fin grid0.N, _)

/-- One column tile of a point's product is the reference's product at the place of that tile. -/
theorem core4 (c : Dev nD) (t : Fin cfg0.N) (W : FVec Ideal S1024x512 .bf16) (x : S512x512.Idx)
    (j : S32768x4096.Idx) (hj0 : (j 0 : ℕ) = t.val * 512 + x 0)
    (hW : ∀ k : Fin 1024, W (ix2 k (x 1)) = m ((c : Thread nD τ).loc main_arg2) (ix2 k (j 1))) :
    k0_pay1 (F := Ideal) (k0_pay6 (F := Ideal) (iblk m c 0 t) (iblk m c 1 t)) W x =
      REF4 (m ((c : Thread nD τ).loc main_arg0)) (m ((c : Thread nD τ).loc main_arg1)) (m ((c : Thread nD τ).loc main_arg2)) j := by
  idx_vars x
  idx_vars j
  pointwise [k0_pay1, k0_pay6, REF4]
  simp only [hW]
  blk_point [iblk, V, idx t]

/-- One column tile of a point's product is the reference's product at the place of that tile. -/
theorem core5 (c : Dev nD) (t : Fin cfg0.N) (W : FVec Ideal S1024x128 .bf16) (x : S512x128.Idx)
    (j : S32768x128.Idx) (hj0 : (j 0 : ℕ) = t.val * 512 + x 0)
    (hW : ∀ k : Fin 1024, W (ix2 k (x 1)) = m ((c : Thread nD τ).loc main_arg3) (ix2 k (j 1))) :
    k0_pay5 (F := Ideal) (k0_pay6 (F := Ideal) (iblk m c 0 t) (iblk m c 1 t)) W x =
      REF5 (m ((c : Thread nD τ).loc main_arg0)) (m ((c : Thread nD τ).loc main_arg1)) (m ((c : Thread nD τ).loc main_arg3)) j := by
  idx_vars x
  idx_vars j
  pointwise [k0_pay5, k0_pay6, REF5]
  simp only [hW]
  blk_point [iblk, V, idx t]

theorem hz : (![0, 0] : Fin 2 → Nat) = fun _ => 0 := funext fun a => by fin_cases a <;> rfl

/-- A point's stores to the wide output: eight column tiles of one product. -/
theorem pieces4 (X0 : Vec Ideal S512x1024 .f32) (X1 : Vec Ideal S1x1024 .f32) (X2 : Vec Ideal S1024x4096 .bf16)
    (X3 : Vec Ideal S1024x128 .bf16) :
    out0_4 (F := Ideal) X0 X1 X2 X3 =
      View.canon [⟨r0_17, k0_pay1 (k0_pay6 X0 X1) (View.ld X2 r0_16)⟩,
        ⟨r0_15, k0_pay1 (k0_pay6 X0 X1) (View.ld X2 r0_14)⟩,
        ⟨r0_13, k0_pay1 (k0_pay6 X0 X1) (View.ld X2 r0_12)⟩,
        ⟨r0_11, k0_pay1 (k0_pay6 X0 X1) (View.ld X2 r0_10)⟩,
        ⟨r0_9, k0_pay1 (k0_pay6 X0 X1) (View.ld X2 r0_8)⟩,
        ⟨r0_7, k0_pay1 (k0_pay6 X0 X1) (View.ld X2 r0_6)⟩,
        ⟨r0_5, k0_pay1 (k0_pay6 X0 X1) (View.ld X2 r0_4)⟩,
        ⟨r0_3, k0_pay1 (k0_pay6 X0 X1) (View.ld X2 r0_2)⟩] := by
  have e0 : View.ld X0 r0_0 = X0 := View.ld_unit_zero (S := S512x1024) hz _ X0
  have e1 : View.ld X1 r0_1 = X1 := View.ld_unit_zero (S := S1x1024) hz _ X1
  unfold out0_4 k0_pay11
  rw [e0, e1]
  rfl

/-- A point's store to the narrow output. -/
theorem pieces5 (X0 : Vec Ideal S512x1024 .f32) (X1 : Vec Ideal S1x1024 .f32) (X2 : Vec Ideal S1024x4096 .bf16)
    (X3 : Vec Ideal S1024x128 .bf16) :
    out0_5 (F := Ideal) X0 X1 X2 X3 = View.canon [⟨r0_19, k0_pay5 (k0_pay6 X0 X1) (View.ld X3 r0_18)⟩] := by
  have e0 : View.ld X0 r0_0 = X0 := View.ld_unit_zero (S := S512x1024) hz _ X0
  have e1 : View.ld X1 r0_1 = X1 := View.ld_unit_zero (S := S1x1024) hz _ X1
  unfold out0_5 k0_pay11
  rw [e0, e1]

/-- The stored block of a point is the reference's block. -/
theorem point4 (c : Dev nD) (t : Fin cfg0.N) (y : S512x4096.Idx) :
    out0_4 (F := Ideal) (iblk m c 0 t) (iblk m c 1 t) (iblk m c 2 t) (iblk m c 3 t) y =
      REF4 (m ((c : Thread nD τ).loc main_arg0)) (m ((c : Thread nD τ).loc main_arg1)) (m ((c : Thread nD τ).loc main_arg2))
        (((cfg0.win 4).blk t).view.emb y) := by
  rw [pieces4]
  canon_tiles x h
  all_goals
    refine core4 m c t _ x _ ?_ ?_
    · blk_simp [idx t]; omega
    · intro k
      pointwise
      blk_ext [iblk, V, idx t]

/-- The kernel's result array is the reference's. -/
theorem final4 (c : Dev nD) : (dats m 0 c).arrAt 4 (cfgs 0).N =
    REF4 (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  exact point4 m c t y

/-- The stored block of a point is the reference's block. -/
theorem point5 (c : Dev nD) (t : Fin cfg0.N) (y : S512x128.Idx) :
    out0_5 (F := Ideal) (iblk m c 0 t) (iblk m c 1 t) (iblk m c 2 t) (iblk m c 3 t) y =
      REF5 (m ((c : Thread nD τ).loc main_arg0)) (m ((c : Thread nD τ).loc main_arg1)) (m ((c : Thread nD τ).loc main_arg3))
        (((cfg0.win 5).blk t).view.emb y) := by
  rw [pieces5]
  canon_tiles x h
  all_goals
    refine core5 m c t _ x _ ?_ ?_
    · blk_simp [idx t]; omega
    · intro k
      pointwise
      blk_ext [iblk, V, idx t]

/-- The kernel's result array is the reference's. -/
theorem final5 (c : Dev nD) : (dats m 0 c).arrAt 5 (cfgs 0).N =
    REF5 (m ((c : Thread nD τ).loc main_arg0)) (m ((c : Thread nD τ).loc main_arg1)) (m ((c : Thread nD τ).loc main_arg3)) := by
  refine (dats m 0 c).arrAt_eq_of_covers 5 _ (by decide +kernel) fun t _ y => ?_
  blk_simp
  rw [after0_5]
  exact point5 m c t y

end Cert.GdnProjIdeal.Value

end
-- ==== Proof.MobaMath.lean ====
/-
  Block-sparse softmax attention over the extended reals: the running form that merges one block after another, and
  the choice of the best blocks by rank or by a stable sort.
-/
module

public import Idealize.ShloMosaic.Lib.Pipeline.ValueKit
public import Idealize.ShloMosaic.Lib.SortPrefix

@[expose] public section

noncomputable section

open Idealize.ShloMosaic

namespace Moba

/-- A nonnegative real factor goes into a finite sum of extended reals. -/
theorem mul_sum {ι : Type} (a : ℝ) (ha : 0 ≤ a) (s : Finset ι) (f : ι → EReal) :
    (a : EReal) * ∑ i ∈ s, f i = ∑ i ∈ s, (a : EReal) * f i := by
  classical
  induction s using Finset.induction_on with
  | empty => simp
  | insert b s hb ih =>
    rw [Finset.sum_insert hb, Finset.sum_insert hb,
      EReal.left_distrib_of_nonneg_of_ne_top (by exact_mod_cast ha) (EReal.coe_ne_top a), ih]

/-- A finite sum of reals, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert b s hb ih => rw [Finset.sum_insert hb, Finset.sum_insert hb, EReal.coe_add, ih]

/-- A maximum, started at minus infinity, of values below plus infinity of which one is a real number, is a real number. -/
theorem fold_max_real {ι : Type} (s : Finset ι) (f : ι → EReal) (hf : ∀ i ∈ s, f i ≠ ⊤)
    (j : ι) (hj : j ∈ s) (hr : f j ≠ ⊥) : ∃ r : ℝ, Finset.fold max ⊥ f s = (r : EReal) := by
  classical
  have h1 : Finset.fold max ⊥ f s ≠ ⊤ := by
    have : Finset.fold max ⊥ f s < ⊤ := (Finset.fold_max_lt _).mpr ⟨bot_lt_top, fun i hi => lt_top_iff_ne_top.mpr (hf i hi)⟩
    exact this.ne
  have h2 : Finset.fold max ⊥ f s ≠ ⊥ := by
    have : ⊥ < Finset.fold max ⊥ f s := (Finset.lt_fold_max _).mpr (Or.inr ⟨j, hj, bot_lt_iff_ne_bot.mpr hr⟩)
    exact this.ne'
  exact ⟨_, (EReal.coe_toReal h1 h2).symm⟩

/-- The running sum when the shift goes from `m` to `m'` and the weights `u` join. -/
theorem merge_sum {n : ℕ} (U m m' : ℝ) (u : Fin n → ℝ) :
    ((U * Real.exp (-m) : ℝ) : EReal) * Ideal.exp ((m : EReal) - (m' : EReal))
        + ∑ l, ((u l * Real.exp (-m') : ℝ) : EReal)
      = (((U + ∑ l, u l) * Real.exp (-m') : ℝ) : EReal) := by
  rw [← EReal.coe_sub, Ideal.exp_coe, ← EReal.coe_mul, ← coe_sum, ← EReal.coe_add, ← Finset.sum_mul, add_mul]
  congr 2
  rw [mul_assoc, ← Real.exp_add]; congr 2; ring

/-- The running accumulator when the shift goes from `m` to `m'` and the values `V`, of weights `u`, join. -/
theorem merge_acc {n : ℕ} (A : EReal) (m m' : ℝ) (u : Fin n → ℝ) (V : Fin n → EReal) :
    ((Real.exp (-m) : ℝ) : EReal) * A * Ideal.exp ((m : EReal) - (m' : EReal))
        + ∑ l, V l * ((u l * Real.exp (-m') : ℝ) : EReal)
      = ((Real.exp (-m') : ℝ) : EReal) * (A + ∑ l, (u l : EReal) * V l) := by
  rw [EReal.left_distrib_of_nonneg_of_ne_top (by exact_mod_cast (Real.exp_pos _).le) (EReal.coe_ne_top _),
    mul_sum _ (Real.exp_pos _).le]
  congr 1
  · rw [← EReal.coe_sub, Ideal.exp_coe, mul_right_comm, ← EReal.coe_mul, ← Real.exp_add]
    congr 3; ring
  · refine Finset.sum_congr rfl fun l _ => ?_
    rw [EReal.coe_mul, mul_comm, mul_comm ((u l : ℝ) : EReal), mul_assoc]

/-- The first block: the accumulator of the weights `u` at the shift `m`. -/
theorem start_acc {n : ℕ} (m : ℝ) (u : Fin n → ℝ) (V : Fin n → EReal) :
    ∑ l, V l * ((u l * Real.exp (-m) : ℝ) : EReal)
      = ((Real.exp (-m) : ℝ) : EReal) * ∑ l, (u l : EReal) * V l := by
  rw [mul_sum _ (Real.exp_pos _).le]
  refine Finset.sum_congr rfl fun l _ => ?_
  rw [EReal.coe_mul, mul_comm, mul_comm ((u l : ℝ) : EReal), mul_assoc]

/-- The quotient of accumulator and sum does not see the shift. -/
theorem finish (A : EReal) (U m : ℝ) (hU : 0 < U) :
    Ideal.div (((Real.exp (-m) : ℝ) : EReal) * A) ((U * Real.exp (-m) : ℝ) : EReal) = ((1 / U : ℝ) : EReal) * A := by
  have hne : U * Real.exp (-m) ≠ 0 := (mul_pos hU (Real.exp_pos _)).ne'
  have h0 : ((U * Real.exp (-m) : ℝ) : EReal) ≠ 0 := by exact_mod_cast hne
  rw [Ideal.div, if_neg h0, ← EReal.coe_inv, mul_right_comm, ← EReal.coe_mul]
  congr 2
  have := (Real.exp_pos (-m)).ne'
  field_simp

/-- A quotient of reals. -/
theorem div_coe (x y : ℝ) (hy : y ≠ 0) : Ideal.div (x : EReal) (y : EReal) = ((x / y : ℝ) : EReal) := by
  have h0 : (y : EReal) ≠ 0 := by exact_mod_cast hy
  rw [Ideal.div, if_neg h0, ← EReal.coe_inv, ← EReal.coe_mul, div_eq_mul_inv]

/-- ATTENTION OVER THE CHOSEN BLOCKS AND THE OWN ONE, at one query and one feature: the values `V` of the chosen blocks
    weighted by `W` and the own block's values `v` weighted by `w`, divided by the sum of the weights. -/
def att (sel : Fin 16 → Prop) [DecidablePred sel] (W : Fin 16 → Fin 256 → ℝ) (w : Fin 256 → ℝ)
    (V : Fin 16 → Fin 256 → EReal) (v : Fin 256 → EReal) : EReal :=
  ((1 / ((∑ l, w l) + ∑ n, if sel n then ∑ l, W n l else 0) : ℝ) : EReal)
    * ((∑ l, (w l : EReal) * v l) + ∑ n, if sel n then ∑ l, (W n l : EReal) * V n l else 0)

/-- A common positive factor of all the weights does not change the attention. -/
theorem att_scale (k : ℝ) (hk : 0 < k) (sel : Fin 16 → Prop) [DecidablePred sel] (W : Fin 16 → Fin 256 → ℝ)
    (w : Fin 256 → ℝ) (V : Fin 16 → Fin 256 → EReal) (v : Fin 256 → EReal) :
    att sel (fun n l => k * W n l) (fun l => k * w l) V v = att sel W w V v := by
  unfold att
  have e1 : (∑ l, k * w l) + (∑ n, if sel n then ∑ l, k * W n l else 0)
      = k * ((∑ l, w l) + ∑ n, if sel n then ∑ l, W n l else 0) := by
    rw [mul_add, Finset.mul_sum, Finset.mul_sum]
    congr 1
    refine Finset.sum_congr rfl fun n _ => ?_
    split_ifs
    · rw [Finset.mul_sum]
    · simp
  have e2 : (∑ l, ((k * w l : ℝ) : EReal) * v l) + (∑ n, if sel n then ∑ l, ((k * W n l : ℝ) : EReal) * V n l else 0)
      = (k : EReal) * ((∑ l, (w l : EReal) * v l) + ∑ n, if sel n then ∑ l, (W n l : EReal) * V n l else 0) := by
    rw [EReal.left_distrib_of_nonneg_of_ne_top (by exact_mod_cast hk.le) (EReal.coe_ne_top _), mul_sum _ hk.le, mul_sum _ hk.le]
    congr 1
    · exact Finset.sum_congr rfl fun l _ => by rw [EReal.coe_mul, mul_assoc]
    · refine Finset.sum_congr rfl fun n _ => ?_
      split_ifs
      · rw [mul_sum _ hk.le]
        exact Finset.sum_congr rfl fun l _ => by rw [EReal.coe_mul, mul_assoc]
      · simp
  rw [e1, e2, ← mul_assoc, ← EReal.coe_mul]
  congr 2
  rw [one_div, mul_inv, mul_right_comm, inv_mul_cancel₀ hk.ne', one_mul, one_div]

/-- One more block of a sum over the blocks below `k`. -/
theorem sum_below_succ {M : Type} [AddCommMonoid M] (k : ℕ) (hk : k < 16) (g : Fin 16 → M) :
    (∑ n : Fin 16, if n.val < k + 1 then g n else 0) = (∑ n : Fin 16, if n.val < k then g n else 0) + g ⟨k, hk⟩ := by
  have h : ∀ n : Fin 16, (if n.val < k + 1 then g n else 0)
      = (if n.val < k then g n else 0) + (if n = ⟨k, hk⟩ then g n else 0) := fun n => by
    rcases lt_trichotomy n.val k with h | h | h
    · rw [if_pos (by omega), if_pos h, if_neg (by intro e; subst e; simp at h), add_zero]
    · rw [if_pos (by omega), if_neg (by omega), if_pos (Fin.ext h), zero_add]
    · rw [if_neg (by omega), if_neg (by omega), if_neg (by intro e; subst e; simp at h), zero_add]
  rw [Finset.sum_congr rfl fun n _ => h n, Finset.sum_add_distrib, Finset.sum_ite_eq' Finset.univ _ g, if_pos (Finset.mem_univ _)]

/-! ## The constants of the programs -/

/-- The constant three. -/
theorem const_3 : Ideal.ofBits .f32 0x40400000#32 = 3 := by
  simp [Ideal.ofBits, Ideal.ieee, -EReal.coe_mul]; norm_num; rfl

/-- The constant two. -/
theorem const_2 : Ideal.ofBits .f32 0x40000000#32 = ((2 : ℝ) : EReal) := by
  simp [Ideal.ofBits, Ideal.ieee, -EReal.coe_mul]; norm_num

/-- The constant eight. -/
theorem const_8 : Ideal.ofBits .f32 0x41000000#32 = ((8 : ℝ) : EReal) := by
  simp [Ideal.ofBits, Ideal.ieee, -EReal.coe_mul]; norm_num

/-- The constant minus eight. -/
theorem const_m8 : Ideal.ofBits .f32 0xC1000000#32 = ((-8 : ℝ) : EReal) := by
  simp [Ideal.ofBits, Ideal.ieee, -EReal.coe_mul]; norm_num

/-- The constant 256. -/
theorem const_256 : Ideal.ofBits .f32 0x43800000#32 = ((256 : ℝ) : EReal) := by
  simp [Ideal.ofBits, Ideal.ieee, -EReal.coe_mul]; norm_num

/-- The constant one over 256. -/
theorem const_inv256 : Ideal.ofBits .f32 0x3B800000#32 = ((1 / 256 : ℝ) : EReal) := by
  simp [Ideal.ofBits, Ideal.ieee, -EReal.coe_mul]; norm_num

/-- The scale of the scores, as a real number. -/
def scale : ℝ := (Ideal.ofBits .f32 0x3DB504F3#32).toReal

/-- The scale of the scores is a real number. -/
theorem const_scale : Ideal.ofBits .f32 0x3DB504F3#32 = (scale : EReal) := by
  have h : ∃ r : ℝ, Ideal.ofBits .f32 0x3DB504F3#32 = (r : EReal) := by
    simp [Ideal.ofBits, Ideal.ieee, -EReal.coe_mul]
  obtain ⟨r, hr⟩ := h
  unfold scale
  rw [hr, EReal.toReal_coe]

/-- The constant minus infinity. -/
theorem const_bot : Ideal.ofBits .f32 0xFF800000#32 = ⊥ := rfl

/-- The constant plus infinity. -/
theorem const_inf : Ideal.ofBits .f32 0x7F800000#32 = ⊤ := rfl

/-! ## The choice of the blocks -/

/-- Entry `a` comes before entry `b` in the order of decreasing values, equal values in index order. -/
def beats (g : Fin 16 → EReal) (a b : Fin 16) : Bool := decide (g b < g a) || (decide (g a = g b) && decide (a < b))

/-- How many entries come before entry `n`. -/
def rank (g : Fin 16 → EReal) (n : Fin 16) : ℕ := ∑ p : Fin 16, if beats g p n = true then 1 else 0

/-- The order is a strict total one. -/
theorem beats_total (g : Fin 16 → EReal) : StrictTotalBefore (beats g) :=
  StrictTotalBefore.of_key_then_position (κ := EReal) (fun a b => decide (b < a)) g (fun a => by simp)
    (fun a b c h1 h2 => by simp only [decide_eq_true_eq] at *; exact lt_trans h2 h1)
    (fun a b => by simp only [decide_eq_true_eq]; rcases lt_trichotomy a b with h | h | h <;> tauto)

/-- A stable sort of a list in index order only compares an entry with later ones, so it may break ties by index. -/
theorem stableSort_tie (g : Fin 16 → EReal) : ∀ l : List (Fin 16), l.Pairwise (· < ·) →
    stableSort (fun a b => decide (g b < g a)) l = stableSort (beats g) l
  | [], _ => rfl
  | a :: l, h => by
    rw [stableSort, stableSort, stableSort_tie g l (List.pairwise_cons.mp h).2]
    refine insertBefore_congr _ _ a _ fun b hb => ?_
    have hab : a < b := (List.pairwise_cons.mp h).1 b ((perm_stableSort _ l).mem_iff.mp hb)
    simp [beats, not_lt.mpr hab.le]

/-- Orders that put the positions in the same list have the same sorting map. -/
theorem sortedFrom_of_positions {n : ℕ} (R R' : Fin n → Fin n → Bool) (h : sortPositions n R = sortPositions n R') :
    sortedFrom R = sortedFrom R' := by
  funext k
  unfold sortedFrom
  rw [List.get_of_eq h]
  rfl

/-- The stable sort by decreasing value is the sort by the total order. -/
theorem sortedFrom_tie (g : Fin 16 → EReal) :
    sortedFrom (fun a b => decide (g b < g a)) = sortedFrom (beats g) := by
  have h : sortPositions 16 (fun a b => decide (g b < g a)) = sortPositions 16 (beats g) :=
    stableSort_tie g _ (List.pairwise_lt_finRange 16)
  exact sortedFrom_of_positions _ _ h

/-- The entry sorted to place `k` has `k` entries before it. -/
theorem rank_sortedFrom (g : Fin 16 → EReal) (k : Fin 16) : rank g (sortedFrom (beats g) k) = k.val := by
  have hB := beats_total g
  have hno : ∀ i j : Fin 16, i < j → beats g (sortedFrom (beats g) j) (sortedFrom (beats g) i) = false :=
    sortedFrom_noInversion (beats g) (beats g) (fun a b h => hB.asymm a b h) (fun a b h => h) (fun a b c h1 h2 => hB.negTrans a b c h1 h2)
  have hinj := sortedFrom_injective (beats g)
  have hbij : Function.Bijective (sortedFrom (beats g)) := ⟨hinj, sortedFrom_surjective (beats g)⟩
  unfold rank
  rw [← hbij.sum_comp (fun p => if beats g p (sortedFrom (beats g) k) = true then 1 else 0)]
  have h : ∀ j : Fin 16, (beats g (sortedFrom (beats g) j) (sortedFrom (beats g) k) = true) ↔ j < k := fun j => by
    rcases lt_trichotomy j k with h | h | h
    · have := hno j k h
      rcases hB.total (sortedFrom (beats g) j) (sortedFrom (beats g) k) (fun e => h.ne (hinj e)) with h' | h'
      · simp [h', h]
      · rw [h'] at this; exact absurd this (by simp)
    · subst h; simp [hB.irrefl]
    · simp [hno k j h, not_lt.mpr h.le]
  simp only [h]
  rw [Finset.sum_boole]
  have h2 : (Finset.univ.filter fun x : Fin 16 => x < k) = Finset.Iio k := by ext x; simp
  rw [h2]; simp

/-- A SUM OVER THE THREE BEST ENTRIES is the sum over the entries of rank below three. -/
theorem sum_top {M : Type} [AddCommMonoid M] (g : Fin 16 → EReal) (f : Fin 16 → M) :
    (∑ a : Fin 3, f (sortedFrom (fun a b => decide (g b < g a)) (a.castLE (by decide))))
      = ∑ n, if rank g n < 3 then f n else 0 := by
  rw [sortedFrom_tie]
  have hbij : Function.Bijective (sortedFrom (beats g)) := ⟨sortedFrom_injective (beats g), sortedFrom_surjective (beats g)⟩
  rw [← hbij.sum_comp (fun n => if rank g n < 3 then f n else 0)]
  simp only [rank_sortedFrom]
  rw [Fin.sum_univ_three]
  simp [Fin.sum_univ_succ]
  rw [← add_assoc]

end Moba
end
-- ==== Proof.MobaMask.lean ====
/-
  The attention kernel's choice of blocks: the mask it writes, entry by entry.
-/
module

public import proofs.«01_k».proof.Proof.Gen.KernelIdeal.Value
public import proofs.«01_k».proof.Proof.MobaMath
public import Idealize.ShloMosaic.Lib.Pipeline.ValueKit
public import Idealize.ShloMosaic.Lib.Claim

@[expose] public section
set_option maxRecDepth 16384
noncomputable section
namespace Cert.KernelIdeal.Value
open Cert.KernelIdeal Cert.KernelIdeal.Gen Idealize.ShloMosaic Idealize.ShloMosaic.TcCoe Idealize.SL.Sem
open Idealize.ShloMosaic.Pipeline (Dat)
set_option maxHeartbeats 4000000

/-- The block numbers, one per row. -/
abbrev rowNo : IVec S16x256 32 := iota Kind.tc S16x256 32 [0] iota_S16x256_d0_w32

/-- The ranks of the gates as the kernel counts them. -/
def rankSum (i : grid0.Coords) (x0 : Vec Ideal S256x128 .bf16) (km : Vec Ideal S16x128 .bf16) : FVec Ideal S16x256 .f32 :=
  k0_pay30 rowNo (k0_pay22 i x0 km)
    (k0_pay28 rowNo (k0_pay22 i x0 km)
      (k0_pay26 rowNo (k0_pay22 i x0 km) (k0_pay23 i x0 km) (k0_pay24 i x0 km) (k0_pay25 i x0 km))
      (k0_pay27 rowNo (k0_pay22 i x0 km)))
    (k0_pay29 rowNo (k0_pay22 i x0 km)) (FloatOps.ofBits .f32 1065353216#32)

/-- The mask of the chosen blocks as the kernel writes it. -/
def maskb (i : grid0.Coords) (x0 : Vec Ideal S256x128 .bf16) (km : Vec Ideal S16x128 .bf16) : FVec Ideal S16x256 .f32 :=
  k0_pay35 rowNo (k0_pay21 i) (k0_pay22 i x0 km) (rankSum i x0 km)
    (k0_pay32 (k0_pay22 i x0 km)) (k0_pay33 (k0_pay22 i x0 km)) k0_pay34

/-- The gates of query `r`, minus infinity for the blocks that are not before its own. -/
def gates (i : grid0.Coords) (x0 : Vec Ideal S256x128 .bf16) (km : Vec Ideal S16x128 .bf16) (r : Fin 256) (n : Fin 16) : EReal :=
  if n.val < (i 2).val then ∑ x : Fin 128, km (ix2 n x) * x0 (ix2 r x) else ⊥

/-- One comparison of the kernel's count: does entry `p` come before entry `n`? -/
theorem sel_beats (g : Fin 16 → EReal) (n p : Fin 16) (w : BitVec 32) (hw : w = BitVec.ofNat 32 p.val) :
    Scalar.select (IntOp.ori (BitVec.ofBool (decide (g n < g p))) (IntOp.andi (BitVec.ofBool (decide (g p = g n)))
      (IntOp.cmpi CmpIPredicate.sgt (BitVec.ofNat 32 ↑n) w))) (1 : EReal) 0 = if Moba.beats g p n = true then 1 else 0 := by
  have h : ∀ n p : Fin 16, IntOp.cmpi CmpIPredicate.sgt (BitVec.ofNat 32 n.val) (BitVec.ofNat 32 p.val) = BitVec.ofBool (decide (p < n)) := by
    decide
  rw [hw, h]
  unfold Moba.beats
  cases decide (g n < g p) <;> cases decide (g p = g n) <;> cases decide (p < n) <;> rfl

/-- The blocks before the query's own. -/
theorem slt_block (i : grid0.Coords) (n : Fin 16) :
    IntOp.cmpi CmpIPredicate.slt (BitVec.ofNat 32 ↑n) (BitVec.ofNat 32 (i 2).val) = BitVec.ofBool (decide (n.val < (i 2).val)) := by
  have h : ∀ a b : Fin 16, IntOp.cmpi CmpIPredicate.slt (BitVec.ofNat 32 a.val) (BitVec.ofNat 32 b.val) = BitVec.ofBool (decide (a.val < b.val)) := by
    decide
  exact h n (i 2)

/-- The gates the kernel computes. -/
theorem pay22_at (i : grid0.Coords) (x0 : Vec Ideal S256x128 .bf16) (km : Vec Ideal S16x128 .bf16) (n : Fin 16) (r : Fin 256) :
    k0_pay22 (F := Ideal) i x0 km (ix2 n r) = gates i x0 km r n := by
  pointwise [k0_pay22, k0_pay21]
  rw [slt_block]
  unfold gates
  by_cases h : n.val < (i 2).val
  · simp [h, Scalar.select]
  · simp [h, Scalar.select]; rfl

/-- A sum of the first thirteen of sixteen terms, written out. -/
theorem sum13 (f : Fin 16 → EReal) :
    f 0 + f 1 + f 2 + f 3 + f 4 + f 5 + f 6 + f 7 + f 8 + f 9 + f 10 + f 11 + f 12 = ∑ p : Fin 13, f (p.castLE (by decide)) := by
  simp [Fin.sum_univ_succ, add_assoc]

/-- THE KERNEL'S COUNT IS THE RANK: the first thirteen comparisons. -/
theorem rankSum_at (i : grid0.Coords) (x0 : Vec Ideal S256x128 .bf16) (km : Vec Ideal S16x128 .bf16) (n : Fin 16) (r : Fin 256) :
    rankSum i x0 km (ix2 n r) = ∑ p : Fin 13, if Moba.beats (gates i x0 km r) (p.castLE (by decide)) n = true then (1 : EReal) else 0 := by
  unfold rankSum
  pointwise [k0_pay30, k0_pay28, k0_pay26, k0_pay23, k0_pay24, k0_pay25, k0_pay27, k0_pay29]
  simp only [pay22_at]
  rw [sel_beats (gates i x0 km r) n 0 0#32 rfl, sel_beats (gates i x0 km r) n 1 1#32 rfl, sel_beats (gates i x0 km r) n 2 2#32 rfl, sel_beats (gates i x0 km r) n 3 3#32 rfl, sel_beats (gates i x0 km r) n 4 4#32 rfl, sel_beats (gates i x0 km r) n 5 5#32 rfl, sel_beats (gates i x0 km r) n 6 6#32 rfl, sel_beats (gates i x0 km r) n 7 7#32 rfl, sel_beats (gates i x0 km r) n 8 8#32 rfl, sel_beats (gates i x0 km r) n 9 9#32 rfl, sel_beats (gates i x0 km r) n 10 10#32 rfl, sel_beats (gates i x0 km r) n 11 11#32 rfl, sel_beats (gates i x0 km r) n 12 12#32 rfl]
  exact sum13 fun p => if Moba.beats (gates i x0 km r) p n = true then (1 : EReal) else 0

/-- A number of entries is below three as an extended real exactly when it is. -/
theorem count_lt (b : Fin 16 → Prop) [DecidablePred b] :
    (∑ p : Fin 16, if b p then (1 : EReal) else 0) < 3 ↔ (∑ p : Fin 16, if b p then 1 else 0) < 3 := by
  have h : (∑ p : Fin 16, if b p then (1 : EReal) else 0) = ((∑ p : Fin 16, if b p then 1 else 0 : ℕ) : EReal) := by
    rw [Nat.cast_sum]; exact Finset.sum_congr rfl fun p _ => by split_ifs <;> simp
  rw [h]
  exact_mod_cast Iff.rfl

/-- Is block `n` one of the chosen ones of query `r`? -/
def chosen (i : grid0.Coords) (x0 : Vec Ideal S256x128 .bf16) (km : Vec Ideal S16x128 .bf16) (r : Fin 256) (n : Fin 16) : Prop :=
  n.val < (i 2).val ∧ Moba.rank (gates i x0 km r) n < 3

instance (i : grid0.Coords) (x0 : Vec Ideal S256x128 .bf16) (km : Vec Ideal S16x128 .bf16) (r : Fin 256) :
    DecidablePred (chosen i x0 km r) := fun n => inferInstanceAs (Decidable (_ ∧ _))

/-- THE MASK: zero for the chosen blocks, minus infinity for the others. -/
theorem maskb_at (i : grid0.Coords) (x0 : Vec Ideal S256x128 .bf16) (km : Vec Ideal S16x128 .bf16) (n : Fin 16) (r : Fin 256) :
    maskb i x0 km (ix2 n r) = if chosen i x0 km r n then 0 else ⊥ := by
  unfold maskb
  pointwise [k0_pay35, k0_pay32, k0_pay33, k0_pay34, k0_pay31, k0_pay21]
  simp only [pay22_at, rankSum_at]
  rw [slt_block, sel_beats (gates i x0 km r) n 13 13#32 rfl, sel_beats (gates i x0 km r) n 14 14#32 rfl, sel_beats (gates i x0 km r) n 15 15#32 rfl]
  have hs : ∀ f : Fin 16 → EReal, (∑ p : Fin 13, f (p.castLE (by decide))) + f 13 + f 14 + f 15 = ∑ p, f p := fun f => by
    simp [Fin.sum_univ_succ, add_assoc]
  rw [Moba.const_3, Moba.const_bot, hs fun p => if Moba.beats (gates i x0 km r) p n = true then (1 : EReal) else 0]
  have hc : decide ((∑ p : Fin 16, if Moba.beats (gates i x0 km r) p n = true then (1 : EReal) else 0) < 3)
      = decide (Moba.rank (gates i x0 km r) n < 3) := decide_eq_decide.mpr (count_lt _)
  rw [hc]
  unfold chosen
  by_cases h1 : n.val < (i 2).val <;> by_cases h2 : Moba.rank (gates i x0 km r) n < 3 <;> simp [h1, h2, Scalar.select, IntOp.andi]

end Cert.KernelIdeal.Value
end
-- ==== Proof.MobaStep.lean ====
/-
  The attention kernel's running softmax: the own block it starts from and one merge of an earlier block.
-/
module

public import proofs.«01_k».proof.Proof.Gen.KernelIdeal.Value
public import proofs.«01_k».proof.Proof.MobaMask
public import Idealize.ShloMosaic.Lib.Pipeline.ValueKit
public import Idealize.ShloMosaic.Lib.Claim

@[expose] public section
set_option maxRecDepth 16384
noncomputable section
namespace Cert.KernelIdeal.Value
open Cert.KernelIdeal Cert.KernelIdeal.Gen Idealize.ShloMosaic Idealize.ShloMosaic.TcCoe Idealize.SL.Sem
open Idealize.ShloMosaic.Pipeline (Dat)
set_option maxHeartbeats 4000000

/-- The slope of head `h`: two to the minus `h + 1`. -/
def slope (h : Fin 8) : ℝ := Real.rpow 2 (-((h.val : ℝ) + 1))

/-- The head number plus one as the kernel computes it. -/
abbrev headNo (i : grid0.Coords) : BitVec 32 := Scalar.addi (BitVec.ofNat 32 (i 1).val) 1#32

/-- The kernel's slope of the head. -/
theorem pay37_at (i : grid0.Coords) : k0_pay37 (F := Ideal) k0_pay36 (headNo i) (ix2 0 0) = ((slope (i 1) : ℝ) : EReal) := by
  pointwise [k0_pay37, k0_pay36]
  have h : ∀ a : Fin 8, (Scalar.addi (BitVec.ofNat 32 a.val) 1#32).toInt = (a.val : ℤ) + 1 := by decide
  rw [Moba.const_8]
  have h1 := h (i 1)
  rw [h1]
  rw [← EReal.coe_mul, Moba.div_coe _ _ (by norm_num)]
  rw [show (0 : EReal) = ((0 : ℝ) : EReal) from rfl, ← EReal.coe_sub]
  show ((Real.rpow 2 _ : ℝ) : EReal) = _
  unfold slope
  congr 2
  push_cast
  ring

/-- A position in a block read as a number. -/
theorem toInt_row (l : Fin 256) : (BitVec.ofNat 32 l.val).toInt = (l.val : ℤ) := by
  have h : ∀ l : Fin 256, (BitVec.ofNat 32 l.val).toInt = (l.val : ℤ) := by decide +kernel
  exact h l

/-- The scores of a block of keys with their positions in the block. -/
theorem pay45_at (i : grid0.Coords) (x0 kk : Vec Ideal S256x128 .bf16) (q k : Fin 256 → Fin 128 → ℝ)
    (hq : ∀ r x, x0 (ix2 r x) = ((q r x : ℝ) : EReal)) (hk : ∀ l x, kk (ix2 l x) = ((k l x : ℝ) : EReal)) (l r : Fin 256) :
    k0_pay45 (F := Ideal) x0 k0_pay36 (headNo i) kk (ix2 l r)
      = (((∑ x, k l x * q r x) * Moba.scale + slope (i 1) * (l.val : ℝ) : ℝ) : EReal) := by
  pointwise [k0_pay45, k0_pay38]
  rw [pay37_at, Moba.const_scale]
  have h1 : FloatOps.sitofp (F := Ideal) FTy.f32 (BitVec.ofNat 32 l.val) = ((l.val : ℝ) : EReal) := by
    show (((BitVec.ofNat 32 l.val).toInt : ℝ) : EReal) = _
    rw [toInt_row]; rfl
  rw [h1, EReal.coe_add, EReal.coe_mul, EReal.coe_mul, Moba.coe_sum]
  simp only [hq, hk, EReal.coe_mul]

/-- The own block's scores. -/
theorem pay39_at (i : grid0.Coords) (x0 kk : Vec Ideal S256x128 .bf16) (l r : Fin 256) :
    k0_pay39 (F := Ideal) x0 k0_pay36 (headNo i) kk (ix2 l r)
      = if l.val ≤ r.val then k0_pay45 (F := Ideal) x0 k0_pay36 (headNo i) kk (ix2 l r) else ⊥ := by
  pointwise [k0_pay39, k0_pay45]
  have h : IntOp.cmpi CmpIPredicate.sle (BitVec.ofNat 32 l.val) (BitVec.ofNat 32 r.val) = BitVec.ofBool (decide (l.val ≤ r.val)) := by
    show BitVec.ofBool (decide ((BitVec.ofNat 32 l.val).toInt ≤ (BitVec.ofNat 32 r.val).toInt)) = _
    rw [toInt_row, toInt_row]; simp
  rw [h, Moba.const_bot]
  by_cases hl : l.val ≤ r.val <;> simp [hl, Scalar.select]

/-- THE START: from the own block's real scores `T`, the running maximum, sum and accumulator of query `r`. -/
theorem start_at (i : grid0.Coords) (x0 kk : Vec Ideal S256x128 .bf16) (vv : Vec Ideal S1x128x256 .bf16) (r : Fin 256) (T : Fin 256 → ℝ)
    (hT : ∀ l, k0_pay45 (F := Ideal) x0 k0_pay36 (headNo i) kk (ix2 l r) = ((T l : ℝ) : EReal)) :
    ∃ m : ℝ, k0_pay40 (F := Ideal) x0 k0_pay36 (headNo i) kk (ix2 0 r) = (m : EReal)
      ∧ k0_pay42 (F := Ideal) x0 k0_pay36 (headNo i) kk (ix2 0 r)
        = (((∑ l : Fin 256, if l.val ≤ r.val then Real.exp (T l) else 0) * Real.exp (-m) : ℝ) : EReal)
      ∧ ∀ d, k0_pay43 (F := Ideal) x0 k0_pay36 (headNo i) kk vv (ix2 d r)
        = ((Real.exp (-m) : ℝ) : EReal) * ∑ l : Fin 256, ((if l.val ≤ r.val then Real.exp (T l) else 0 : ℝ) : EReal) * vv (ix3 0 d l) := by
  have h40 : k0_pay40 (F := Ideal) x0 k0_pay36 (headNo i) kk (ix2 0 r)
      = Finset.fold max ⊥ (fun x => k0_pay39 (F := Ideal) x0 k0_pay36 (headNo i) kk (ix2 x r)) Finset.univ := by
    pointwise [k0_pay40]
    rw [Moba.const_bot]
  obtain ⟨m, hm⟩ := Moba.fold_max_real Finset.univ (fun x => k0_pay39 (F := Ideal) x0 k0_pay36 (headNo i) kk (ix2 x r))
    (fun x _ => by
      show k0_pay39 (F := Ideal) x0 k0_pay36 (headNo i) kk (ix2 x r) ≠ ⊤
      rw [pay39_at, hT]; split_ifs
      · exact EReal.coe_ne_top _
      · exact bot_ne_top)
    r (Finset.mem_univ _) (by
      show k0_pay39 (F := Ideal) x0 k0_pay36 (headNo i) kk (ix2 r r) ≠ ⊥
      rw [pay39_at, hT, if_pos le_rfl]; exact EReal.coe_ne_bot _)
  have hm' : k0_pay40 (F := Ideal) x0 k0_pay36 (headNo i) kk (ix2 0 r) = (m : EReal) := h40.trans hm
  have h41 : ∀ l, k0_pay41 (F := Ideal) x0 k0_pay36 (headNo i) kk (ix2 l r)
      = (((if l.val ≤ r.val then Real.exp (T l) else 0) * Real.exp (-m) : ℝ) : EReal) := fun l => by
    pointwise [k0_pay41]
    rw [hm', pay39_at, hT]
    split_ifs
    · rw [← EReal.coe_sub, Ideal.exp_coe, ← Real.exp_add, sub_eq_add_neg]
    · rw [sub_eq_add_neg, EReal.bot_add, Ideal.exp_bot, zero_mul]; rfl
  refine ⟨m, hm', ?_, fun d => ?_⟩
  · rw [Finset.sum_mul, Moba.coe_sum]
    pointwise [k0_pay42]
    exact Finset.sum_congr rfl fun l _ => h41 l
  · rw [← Moba.start_acc]
    pointwise [k0_pay43]
    exact Finset.sum_congr rfl fun l _ => by rw [h41]

/-- The distance of the blocks as the kernel computes it. -/
theorem blockDist (k i : Fin 16) :
    (Scalar.muli (Scalar.subi (Scf.iv 0#32 1#32 k.val) (BitVec.ofNat 32 i.val)) 256#32).toInt = ((k.val : ℤ) - i.val) * 256 := by
  revert k i; decide

/-- ONE MERGE of an earlier block with the real scores `T`: the running maximum, sum and accumulator of query `r` after it. -/
theorem merge_at (i : grid0.Coords) (k : Fin (k0_t1_loop i).trips) (hk16 : k.val < 16) (x0 kk : Vec Ideal S256x128 .bf16)
    (mm : Vec Ideal S1x256 .f32) (vv : Vec Ideal S1x128x256 .bf16) (a b : FVec Ideal S1x256 .f32) (e : FVec Ideal S128x256 .f32)
    (r : Fin 256) (T : Fin 256 → ℝ) (hT : ∀ l, k0_pay45 (F := Ideal) x0 k0_pay36 (headNo i) kk (ix2 l r) = ((T l : ℝ) : EReal))
    (ch : Prop) [Decidable ch] (hch : mm (ix2 0 r) = if ch then 0 else ⊥) (m U : ℝ) (ha : a (ix2 0 r) = (m : EReal))
    (hb : b (ix2 0 r) = ((U * Real.exp (-m) : ℝ) : EReal)) :
    ∃ m' : ℝ, k0_pay46 (F := Ideal) i (BitVec.ofNat 32 (i 2).val) x0 k0_pay36 (headNo i) k a kk mm (ix2 0 r) = (m' : EReal)
      ∧ k0_pay49 (F := Ideal) i (BitVec.ofNat 32 (i 2).val) x0 k0_pay36 (headNo i) k a b kk mm (ix2 0 r)
        = (((U + if ch then ∑ l, Real.exp (T l + slope (i 1) * (((k.val : ℝ) - ((i 2).val : ℝ)) * 256)) else 0) * Real.exp (-m') : ℝ) : EReal)
      ∧ ∀ (d : Fin 128) (A : EReal), e (ix2 d r) = ((Real.exp (-m) : ℝ) : EReal) * A →
        k0_pay50 (F := Ideal) i (BitVec.ofNat 32 (i 2).val) x0 k0_pay36 (headNo i) k a e kk mm vv (ix2 d r)
          = ((Real.exp (-m') : ℝ) : EReal) * (A + if ch then
              ∑ l, ((Real.exp (T l + slope (i 1) * (((k.val : ℝ) - ((i 2).val : ℝ)) * 256)) : ℝ) : EReal) * vv (ix3 0 d l) else 0) := by
  set B : ℝ := slope (i 1) * (((k.val : ℝ) - ((i 2).val : ℝ)) * 256) with hB
  have h44 : k0_pay44 (F := Ideal) i (BitVec.ofNat 32 (i 2).val) k0_pay36 (headNo i) k mm (ix2 0 r) = if ch then (B : EReal) else ⊥ := by
    pointwise [k0_pay44]
    rw [pay37_at, hch]
    have h := blockDist ⟨k.val, hk16⟩ (i 2)
    dsimp only at h
    rw [h, ← EReal.coe_mul]
    have hB' : slope (i 1) * ((((k.val : ℤ) - ((i 2).val : ℤ)) * 256 : ℤ) : ℝ) = B := by rw [hB]; push_cast; rfl
    rw [hB']
    split_ifs
    · rw [zero_add]
    · rw [EReal.bot_add]
  obtain ⟨M, hM⟩ := Moba.fold_max_real Finset.univ (fun x => k0_pay45 (F := Ideal) x0 k0_pay36 (headNo i) kk (ix2 x r))
    (fun x _ => by
      show k0_pay45 (F := Ideal) x0 k0_pay36 (headNo i) kk (ix2 x r) ≠ ⊤
      rw [hT]; exact EReal.coe_ne_top _)
    r (Finset.mem_univ _) (by
      show k0_pay45 (F := Ideal) x0 k0_pay36 (headNo i) kk (ix2 r r) ≠ ⊥
      rw [hT]; exact EReal.coe_ne_bot _)
  have h46 : ∃ m' : ℝ, k0_pay46 (F := Ideal) i (BitVec.ofNat 32 (i 2).val) x0 k0_pay36 (headNo i) k a kk mm (ix2 0 r) = (m' : EReal) := by
    have h : k0_pay46 (F := Ideal) i (BitVec.ofNat 32 (i 2).val) x0 k0_pay36 (headNo i) k a kk mm (ix2 0 r)
        = max (m : EReal) ((M : EReal) + if ch then (B : EReal) else ⊥) := by
      pointwise [k0_pay46]
      rw [h44, Moba.const_bot, hM, ha]
    rw [h]
    split_ifs
    · exact ⟨max m (M + B), by rw [← EReal.coe_add]; exact (EReal.coe_strictMono.monotone.map_max (a := m) (b := M + B)).symm⟩
    · exact ⟨m, by rw [EReal.add_bot]; exact max_eq_left bot_le⟩
  obtain ⟨m', hm'⟩ := h46
  have h48 : ∀ l, Ideal.exp (((T l : ℝ) : EReal) + ((if ch then (B : EReal) else ⊥) - (m' : EReal)))
      = (((if ch then Real.exp (T l + B) else 0) * Real.exp (-m') : ℝ) : EReal) := fun l => by
    split_ifs
    · rw [← EReal.coe_sub, ← EReal.coe_add, Ideal.exp_coe, ← Real.exp_add]; congr 2; ring
    · rw [sub_eq_add_neg, EReal.bot_add, EReal.add_bot, Ideal.exp_bot, zero_mul]; rfl
  have hs : (∑ l : Fin 256, if ch then Real.exp (T l + B) else 0) = if ch then ∑ l, Real.exp (T l + B) else 0 := by
    split_ifs <;> simp
  refine ⟨m', hm', ?_, fun d A hA => ?_⟩
  · pointwise [k0_pay49, k0_pay47, k0_pay48]
    rw [hm', h44, ha, hb]
    simp only [hT, h48]
    rw [Moba.merge_sum, hs]
  · pointwise [k0_pay50, k0_pay47, k0_pay48]
    rw [hm', h44, ha, hA]
    simp only [hT, h48]
    rw [Moba.merge_acc]
    congr 2
    split_ifs
    · rfl
    · simp

end Cert.KernelIdeal.Value
end
-- ==== Proof.MobaLoop.lean ====
/-
  The attention kernel's loop over the earlier blocks and what one grid point writes.
-/
module

public import proofs.«01_k».proof.Proof.Gen.KernelIdeal.Value
public import proofs.«01_k».proof.Proof.MobaStep
public import Idealize.ShloMosaic.Lib.Pipeline.ValueKit
public import Idealize.ShloMosaic.Lib.Claim

@[expose] public section
set_option maxRecDepth 16384
noncomputable section
namespace Cert.KernelIdeal.Value
open Cert.KernelIdeal Cert.KernelIdeal.Gen Idealize.ShloMosaic Idealize.ShloMosaic.TcCoe Idealize.SL.Sem
open Idealize.ShloMosaic.Pipeline (Dat)
set_option maxHeartbeats 4000000

/-- The running maximum, sum and accumulator. -/
abbrev St : Type := FVec Ideal S1x256 .f32 × FVec Ideal S1x256 .f32 × FVec Ideal S128x256 .f32

/-- The own block of keys. -/
def ownK (i : grid0.Coords) (x1 : Vec Ideal S4096x128 .bf16) : Vec Ideal S256x128 .bf16 := View.ld x1 (Rect.unit (s := S4096x128) (k0_off1 i) S256x128.size (k0_off1_inb i))

/-- The own block of transposed values. -/
def ownV (i : grid0.Coords) (xs1 : Vec Ideal S16x128x256 .bf16) : Vec Ideal S1x128x256 .bf16 := View.ld xs1 (Rect.unit (s := S16x128x256) (k0_off2 i) S1x128x256.size (k0_off2_inb i))

/-- The block of keys of trip `k`. -/
def pastK (i : grid0.Coords) (k : Fin (k0_t1_loop i).trips) (x1 : Vec Ideal S4096x128 .bf16) : Vec Ideal S256x128 .bf16 := View.ld x1 (Rect.unit (s := S4096x128) (k0_off3 i k) S256x128.size (k0_off3_inb i k))

/-- The mask's row of trip `k`. -/
def pastM (i : grid0.Coords) (k : Fin (k0_t1_loop i).trips) (M : FVec Ideal S16x256 .f32) : Vec Ideal S1x256 .f32 := View.ld (Val := Elt Ideal) (e' := .f32) M (Rect.unit (s := S16x256) (k0_off4 i k) S1x256.size (k0_off4_inb i k))

/-- The block of transposed values of trip `k`. -/
def pastV (i : grid0.Coords) (k : Fin (k0_t1_loop i).trips) (xs1 : Vec Ideal S16x128x256 .bf16) : Vec Ideal S1x128x256 .bf16 := View.ld xs1 (Rect.unit (s := S16x128x256) (k0_off5 i k) S1x128x256.size (k0_off5_inb i k))

/-- One trip of the loop over the earlier blocks, on the arrays it reads. -/
def stepF (i : grid0.Coords) (x0 : Vec Ideal S256x128 .bf16) (x1 : Vec Ideal S4096x128 .bf16) (xs1 : Vec Ideal S16x128x256 .bf16) (M : FVec Ideal S16x256 .f32) (k : Fin (k0_t1_loop i).trips) (s : St) : St :=
  (k0_pay46 i (BitVec.ofNat 32 (i 2).val) x0 k0_pay36 (headNo i) k s.1
      (pastK i k x1)
      (pastM i k M),
   k0_pay49 i (BitVec.ofNat 32 (i 2).val) x0 k0_pay36 (headNo i) k s.1 s.2.1
      (pastK i k x1)
      (pastM i k M),
   k0_pay50 i (BitVec.ofNat 32 (i 2).val) x0 k0_pay36 (headNo i) k s.1 s.2.2
      (pastK i k x1)
      (pastM i k M)
      (pastV i k xs1))

/-- The loop's trip is that function. -/
theorem tripR_eq (c : Dev nD) (i : grid0.Coords) (arg3 : Memref sig .tc .vmem S256x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S256x128 .bf16) (harg6 : arg6.IsWhole) (arg7 : Memref sig .tc .vmem S16x128 .bf16) (harg7 : arg7.IsWhole) (arg8 : Memref sig .tc .vmem S16x128x256 .bf16) (harg8 : arg8.IsWhole) (arg9 : Memref sig .tc .vmem S16x256 .f32) (harg9 : arg9.IsWhole) (x0 : Vec Ideal S256x128 .bf16) (x1 : Vec Ideal S4096x128 .bf16) (xs1 : Vec Ideal S16x128x256 .bf16) (M : FVec Ideal S16x256 .f32) (k : Fin (k0_t1_loop i).trips) (s : St) :
    tripR_k0_t1 (F := Ideal) Variants.none c none i arg3 harg3 arg4 harg4 arg5 harg5 arg6 harg6 arg7 harg7 arg8 harg8 arg9 harg9 (BitVec.ofNat 32 (i 2).val) x0 k0_pay36 (headNo i) (harg4.unread x1) (harg8.unread xs1) (arg9.view.writes (Elt Ideal) arg9.view.junk [⟨Rect.unit ![0, 0] ![16, 256] inb_S16x256_S16x256_0_0, M⟩]) k s = stepF i x0 x1 xs1 M k s := by
  unfold tripR_k0_t1 trip_k0_t1 stepF pastK pastM pastV
  dsimp only
  simp only [View.readAt_eq_ld, Memref.IsWhole.read_unread, View.read_writes_junk_eq_canon]
  rw [View.canon_cons_unit_lit inb_S16x256_S16x256_0_0]
  intro a; fin_cases a <;> rfl

/-- What the own block contributes at the start. -/
def initF (i : grid0.Coords) (x0 : Vec Ideal S256x128 .bf16) (x1 : Vec Ideal S4096x128 .bf16) (xs1 : Vec Ideal S16x128x256 .bf16) : St :=
  (k0_pay40 x0 k0_pay36 (headNo i) (ownK i x1),
   k0_pay42 x0 k0_pay36 (headNo i) (ownK i x1),
   k0_pay43 x0 k0_pay36 (headNo i) (ownK i x1)
     (ownV i xs1))

/-- The starting maximum. -/
theorem initF_max (i : grid0.Coords) (x0 : Vec Ideal S256x128 .bf16) (x1 : Vec Ideal S4096x128 .bf16) (xs1 : Vec Ideal S16x128x256 .bf16) :
    (initF i x0 x1 xs1).1 = k0_pay40 x0 k0_pay36 (headNo i) (ownK i x1) := by
  rw [initF]

/-- The starting sum. -/
theorem initF_sum (i : grid0.Coords) (x0 : Vec Ideal S256x128 .bf16) (x1 : Vec Ideal S4096x128 .bf16) (xs1 : Vec Ideal S16x128x256 .bf16) :
    (initF i x0 x1 xs1).2.1 = k0_pay42 x0 k0_pay36 (headNo i) (ownK i x1) := by
  rw [initF]

/-- The starting accumulator. -/
theorem initF_acc (i : grid0.Coords) (x0 : Vec Ideal S256x128 .bf16) (x1 : Vec Ideal S4096x128 .bf16) (xs1 : Vec Ideal S16x128x256 .bf16) :
    (initF i x0 x1 xs1).2.2 = k0_pay43 x0 k0_pay36 (headNo i) (ownK i x1) (ownV i xs1) := by
  rw [initF]

/-- The loop's number of trips. -/
theorem trips1 (i : grid0.Coords) : (k0_t1_loop i).trips = (i 2).val := by
  have h : ∀ a : Fin 16, Scf.trips (0#32) (Scalar.addi (0#32) (Scalar.muli (Scalar.divsi (Scalar.subi (BitVec.ofNat 32 a.val) 0#32) 1#32) 1#32)) 1#32 = a.val := by
    decide
  exact h (i 2)

/-- The remainder loop makes no trip. -/
theorem trips2 (a : Fin 16) : Scf.trips
    (Scalar.addi (0#32) (Scalar.muli (Scalar.divsi (Scalar.subi (BitVec.ofNat 32 a.val) 0#32) 1#32) 1#32))
    (Scalar.addi (0#32) (Scalar.subi (BitVec.ofNat 32 a.val) 0#32)) 1#32 = 0 := by
  revert a; decide

/-- WHAT A GRID POINT WRITES when it reads the means and the transposed values left before it. -/
theorem out0_B_eq (c : Dev nD) (i : grid0.Coords) (arg3 : Memref sig .tc .vmem S256x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S256x128 .bf16) (harg6 : arg6.IsWhole) (arg7 : Memref sig .tc .vmem S16x128 .bf16) (harg7 : arg7.IsWhole) (arg8 : Memref sig .tc .vmem S16x128x256 .bf16) (harg8 : arg8.IsWhole) (arg9 : Memref sig .tc .vmem S16x256 .f32) (harg9 : arg9.IsWhole) (hc0 : ¬cond0_0 i) (x0 : Vec Ideal S256x128 .bf16) (x1 : Vec Ideal S4096x128 .bf16) (x2 : Vec Ideal S4096x128 .bf16) (xs0 : Vec Ideal S16x128 .bf16) (xs1 : Vec Ideal S16x128x256 .bf16) :
    out0_B_3 (F := Ideal) c i arg3 harg3 arg4 harg4 arg5 harg5 arg6 harg6 arg7 harg7 arg8 harg8 arg9 harg9 hc0 x0 x1 x2 xs0 xs1
      = (k0_pay1 (k0_pay58
          (st_k0_t1 (F := Ideal) Variants.none c none i arg3 harg3 arg4 harg4 arg5 harg5 arg6 harg6 arg7 harg7 arg8 harg8 arg9 harg9 (BitVec.ofNat 32 (i 2).val) x0 k0_pay36 (headNo i) (harg4.unread x1) (harg8.unread xs1) (arg9.view.writes (Elt Ideal) arg9.view.junk [⟨Rect.unit ![0, 0] ![16, 256] inb_S16x256_S16x256_0_0, maskb i x0 xs0⟩]) (initF i x0 x1 xs1) (k0_t1_loop i).trips).2.1
          (st_k0_t1 (F := Ideal) Variants.none c none i arg3 harg3 arg4 harg4 arg5 harg5 arg6 harg6 arg7 harg7 arg8 harg8 arg9 harg9 (BitVec.ofNat 32 (i 2).val) x0 k0_pay36 (headNo i) (harg4.unread x1) (harg8.unread xs1) (arg9.view.writes (Elt Ideal) arg9.view.junk [⟨Rect.unit ![0, 0] ![16, 256] inb_S16x256_S16x256_0_0, maskb i x0 xs0⟩]) (initF i x0 x1 xs1) (k0_t1_loop i).trips).2.2) : Vec Ideal S256x128 .bf16) := by
  frame_out
  rw [trips2 (i 2)]
  rfl

/-- Row `l` of block `n`. -/
def row (n : Fin 16) (l : Fin 256) : Fin 4096 := ⟨256 * n.val + l.val, by have := n.isLt; have := l.isLt; omega⟩

/-- A row of the own block of keys. -/
theorem ownK_at (i : grid0.Coords) (x1 : Vec Ideal S4096x128 .bf16) (l : Fin 256) (x : Fin 128) :
    ownK i x1 (ix2 l x) = x1 (ix2 (row (i 2) l) x) := by
  have h : ∀ a : Fin 16, (Scalar.indexCast (Scalar.muli (BitVec.ofNat 32 a.val) 256#32)).toNat = 256 * a.val := by decide
  refine View.ld_unit_apply_of _ _ _ _ _ _ fun a => ?_
  fin_cases a
  · show 256 * (i 2).val + l.val = (Scalar.indexCast (Scalar.muli (BitVec.ofNat 32 (i 2).val) 256#32)).toNat + l.val
    rw [h (i 2)]
  · show x.val = 0 + x.val
    omega

/-- The own block of values, transposed. -/
theorem ownV_at (i : grid0.Coords) (xs1 : Vec Ideal S16x128x256 .bf16) (d : Fin 128) (l : Fin 256) :
    ownV i xs1 (ix3 0 d l) = xs1 (ix3 (i 2) d l) := by
  have h : ∀ a : Fin 16, (Scalar.indexCast (BitVec.ofNat 32 a.val)).toNat = a.val := by decide
  refine View.ld_unit_apply_of _ _ _ _ _ _ fun a => ?_
  fin_cases a
  · show (i 2).val = (Scalar.indexCast (BitVec.ofNat 32 (i 2).val)).toNat + 0
    rw [h (i 2)]; rfl
  · show d.val = 0 + d.val
    omega
  · show l.val = 0 + l.val
    omega

/-- A row of an earlier block of keys. -/
theorem pastK_at (i : grid0.Coords) (k : Fin (k0_t1_loop i).trips) (n : Fin 16) (hn : n.val = k.val) (x1 : Vec Ideal S4096x128 .bf16) (l : Fin 256) (x : Fin 128) :
    pastK i k x1 (ix2 l x) = x1 (ix2 (row n l) x) := by
  have h : ∀ a : Fin 16, (Scalar.indexCast (Scalar.muli (Scf.iv 0#32 1#32 a.val) 256#32)).toNat = 256 * a.val := by decide
  refine View.ld_unit_apply_of _ _ _ _ _ _ fun a => ?_
  fin_cases a
  · show 256 * n.val + l.val = (Scalar.indexCast (Scalar.muli (Scf.iv 0#32 1#32 k.val) 256#32)).toNat + l.val
    rw [← hn, h n]
  · show x.val = 0 + x.val
    omega

/-- The mask's row of an earlier block. -/
theorem pastM_at (i : grid0.Coords) (k : Fin (k0_t1_loop i).trips) (n : Fin 16) (hn : n.val = k.val) (M : FVec Ideal S16x256 .f32) (r : Fin 256) :
    pastM i k M (ix2 0 r) = M (ix2 n r) := by
  have h : ∀ a : Fin 16, (Scalar.indexCast (Scf.iv 0#32 1#32 a.val)).toNat = a.val := by decide
  unfold pastM
  refine View.ld_unit_apply_of _ _ _ _ _ _ fun a => ?_
  fin_cases a
  · show n.val = (Scalar.indexCast (Scf.iv 0#32 1#32 k.val)).toNat + 0
    rw [← hn, h n]; rfl
  · show r.val = 0 + r.val
    omega

/-- An earlier block of values, transposed. -/
theorem pastV_at (i : grid0.Coords) (k : Fin (k0_t1_loop i).trips) (n : Fin 16) (hn : n.val = k.val) (xs1 : Vec Ideal S16x128x256 .bf16) (d : Fin 128) (l : Fin 256) :
    pastV i k xs1 (ix3 0 d l) = xs1 (ix3 n d l) := by
  have h : ∀ a : Fin 16, (Scalar.indexCast (Scf.iv 0#32 1#32 a.val)).toNat = a.val := by decide
  refine View.ld_unit_apply_of _ _ _ _ _ _ fun a => ?_
  fin_cases a
  · show n.val = (Scalar.indexCast (Scf.iv 0#32 1#32 k.val)).toNat + 0
    rw [← hn, h n]; rfl
  · show d.val = 0 + d.val
    omega
  · show l.val = 0 + l.val
    omega

/-- The score of query `r` against row `l` of block `n`, with the row's position in the block. -/
def score (h : Fin 8) (q : Fin 256 → Fin 128 → ℝ) (k : Fin 4096 → Fin 128 → ℝ) (r : Fin 256) (n : Fin 16) (l : Fin 256) : ℝ :=
  (∑ x, k (row n l) x * q r x) * Moba.scale + slope h * (l.val : ℝ)

/-- The weight of row `l` of an earlier block `n` at query `r` of block `o`. -/
def pastW (h : Fin 8) (o : Fin 16) (q : Fin 256 → Fin 128 → ℝ) (k : Fin 4096 → Fin 128 → ℝ) (r : Fin 256) (n : Fin 16) (l : Fin 256) : ℝ :=
  Real.exp (score h q k r n l + slope h * (((n.val : ℝ) - (o.val : ℝ)) * 256))

/-- The weight of row `l` of the own block `o` at query `r`. -/
def ownW (h : Fin 8) (o : Fin 16) (q : Fin 256 → Fin 128 → ℝ) (k : Fin 4096 → Fin 128 → ℝ) (r : Fin 256) (l : Fin 256) : ℝ :=
  if l.val ≤ r.val then Real.exp (score h q k r o l) else 0

/-- THE LOOP before trip `n`: a real running maximum, and the sum and the accumulator over the own block and the chosen ones of the first `n`. -/
theorem loop_at (c : Dev nD) (i : grid0.Coords) (arg3 : Memref sig .tc .vmem S256x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S256x128 .bf16) (harg6 : arg6.IsWhole) (arg7 : Memref sig .tc .vmem S16x128 .bf16) (harg7 : arg7.IsWhole) (arg8 : Memref sig .tc .vmem S16x128x256 .bf16) (harg8 : arg8.IsWhole) (arg9 : Memref sig .tc .vmem S16x256 .f32) (harg9 : arg9.IsWhole) (x0 : Vec Ideal S256x128 .bf16) (x1 : Vec Ideal S4096x128 .bf16) (xs1 : Vec Ideal S16x128x256 .bf16) (M : FVec Ideal S16x256 .f32) (q : Fin 256 → Fin 128 → ℝ) (k : Fin 4096 → Fin 128 → ℝ)
    (hq : ∀ r x, x0 (ix2 r x) = ((q r x : ℝ) : EReal)) (hk : ∀ p x, x1 (ix2 p x) = ((k p x : ℝ) : EReal)) (r : Fin 256)
    (sel : Fin 16 → Prop) [DecidablePred sel] (hM : ∀ n, M (ix2 n r) = if sel n then 0 else ⊥) (n : ℕ) (hn : n ≤ (i 2).val) :
    ∃ m : ℝ, (st_k0_t1 (F := Ideal) Variants.none c none i arg3 harg3 arg4 harg4 arg5 harg5 arg6 harg6 arg7 harg7 arg8 harg8 arg9 harg9 (BitVec.ofNat 32 (i 2).val) x0 k0_pay36 (headNo i) (harg4.unread x1) (harg8.unread xs1) (arg9.view.writes (Elt Ideal) arg9.view.junk [⟨Rect.unit ![0, 0] ![16, 256] inb_S16x256_S16x256_0_0, M⟩]) (initF i x0 x1 xs1) n).1 (ix2 0 r) = (m : EReal)
      ∧ (st_k0_t1 (F := Ideal) Variants.none c none i arg3 harg3 arg4 harg4 arg5 harg5 arg6 harg6 arg7 harg7 arg8 harg8 arg9 harg9 (BitVec.ofNat 32 (i 2).val) x0 k0_pay36 (headNo i) (harg4.unread x1) (harg8.unread xs1) (arg9.view.writes (Elt Ideal) arg9.view.junk [⟨Rect.unit ![0, 0] ![16, 256] inb_S16x256_S16x256_0_0, M⟩]) (initF i x0 x1 xs1) n).2.1 (ix2 0 r)
        = ((((∑ l, ownW (i 1) (i 2) q k r l) + ∑ j : Fin 16, if j.val < n then (if sel j then ∑ l, pastW (i 1) (i 2) q k r j l else 0) else 0) * Real.exp (-m) : ℝ) : EReal)
      ∧ ∀ d, (st_k0_t1 (F := Ideal) Variants.none c none i arg3 harg3 arg4 harg4 arg5 harg5 arg6 harg6 arg7 harg7 arg8 harg8 arg9 harg9 (BitVec.ofNat 32 (i 2).val) x0 k0_pay36 (headNo i) (harg4.unread x1) (harg8.unread xs1) (arg9.view.writes (Elt Ideal) arg9.view.junk [⟨Rect.unit ![0, 0] ![16, 256] inb_S16x256_S16x256_0_0, M⟩]) (initF i x0 x1 xs1) n).2.2 (ix2 d r)
        = ((Real.exp (-m) : ℝ) : EReal) * ((∑ l, ((ownW (i 1) (i 2) q k r l : ℝ) : EReal) * xs1 (ix3 (i 2) d l))
          + ∑ j : Fin 16, if j.val < n then (if sel j then ∑ l, ((pastW (i 1) (i 2) q k r j l : ℝ) : EReal) * xs1 (ix3 j d l) else 0) else 0) := by
  induction n with
  | zero =>
    rw [st_k0_t1_zero, initF_max, initF_sum, initF_acc]
    obtain ⟨m, h1, h2, h3⟩ := start_at i x0 (ownK i x1)
      (ownV i xs1) r (score (i 1) q k r (i 2))
      (fun l => pay45_at i x0 _ q (fun l x => k (row (i 2) l) x) hq (fun l x => by rw [ownK_at, hk]) l r)
    refine ⟨m, h1, ?_, fun d => ?_⟩
    · refine h2.trans ?_
      simp [ownW]
    · refine (h3 d).trans ?_
      have hz : (∑ j : Fin 16, if j.val < 0 then (if sel j then ∑ l, ((pastW (i 1) (i 2) q k r j l : ℝ) : EReal) * xs1 (ix3 j d l) else 0) else 0) = 0 := by
        simp
      rw [hz, add_zero]
      refine congrArg (((Real.exp (-m) : ℝ) : EReal) * ·) ?_
      exact Finset.sum_congr rfl fun l _ => congrArg (((ownW (i 1) (i 2) q k r l : ℝ) : EReal) * ·) (ownV_at i xs1 d l)
  | succ n ih =>
    have hlt : n < (k0_t1_loop i).trips := by rw [trips1]; exact hn
    have h16 : n < 16 := Nat.lt_of_lt_of_le hn (Nat.le_of_lt_succ (Nat.lt_succ_of_lt (i 2).isLt))
    obtain ⟨m, h1, h2, h3⟩ := ih (Nat.le_of_succ_le hn)
    have e := st_k0_t1_succ (F := Ideal) Variants.none c none i arg3 harg3 arg4 harg4 arg5 harg5 arg6 harg6 arg7 harg7 arg8 harg8 arg9 harg9 (BitVec.ofNat 32 (i 2).val) x0 k0_pay36 (headNo i) (harg4.unread x1) (harg8.unread xs1) (arg9.view.writes (Elt Ideal) arg9.view.junk [⟨Rect.unit ![0, 0] ![16, 256] inb_S16x256_S16x256_0_0, M⟩]) (initF i x0 x1 xs1) ⟨n, hlt⟩
    rw [tripR_eq] at e
    dsimp only at e
    rw [e]
    obtain ⟨m', g1, g2, g3⟩ := merge_at i ⟨n, hlt⟩ h16 x0
      (pastK i ⟨n, hlt⟩ x1)
      (pastM i ⟨n, hlt⟩ M)
      (pastV i ⟨n, hlt⟩ xs1)
      _ _ (st_k0_t1 (F := Ideal) Variants.none c none i arg3 harg3 arg4 harg4 arg5 harg5 arg6 harg6 arg7 harg7 arg8 harg8 arg9 harg9 (BitVec.ofNat 32 (i 2).val) x0 k0_pay36 (headNo i) (harg4.unread x1) (harg8.unread xs1) (arg9.view.writes (Elt Ideal) arg9.view.junk [⟨Rect.unit ![0, 0] ![16, 256] inb_S16x256_S16x256_0_0, M⟩]) (initF i x0 x1 xs1) n).2.2 r (score (i 1) q k r ⟨n, h16⟩)
      (fun l => pay45_at i x0 _ q (fun l x => k (row ⟨n, h16⟩ l) x) hq (fun l x => by rw [pastK_at i ⟨n, hlt⟩ ⟨n, h16⟩ rfl, hk]) l r)
      (sel ⟨n, h16⟩) (by rw [pastM_at i ⟨n, hlt⟩ ⟨n, h16⟩ rfl]; exact hM _) m _ h1 h2
    refine ⟨m', g1, ?_, fun d => ?_⟩
    · rw [Moba.sum_below_succ n h16, ← add_assoc]
      exact g2
    · rw [Moba.sum_below_succ n h16, ← add_assoc]
      refine (g3 d _ (h3 d)).trans ?_
      refine congrArg (((Real.exp (-m') : ℝ) : EReal) * ·) (congrArg₂ (· + ·) rfl ?_)
      by_cases hs : sel ⟨n, h16⟩
      · rw [if_pos hs, if_pos hs]
        exact Finset.sum_congr rfl fun l _ =>
          congrArg (((pastW (i 1) (i 2) q k r ⟨n, h16⟩ l : ℝ) : EReal) * ·) (pastV_at i ⟨n, hlt⟩ ⟨n, h16⟩ rfl xs1 d l)
      · rw [if_neg hs, if_neg hs]

/-- The sum over the earlier chosen blocks is the sum over the chosen ones. -/
theorem sum_sel {A : Type} [AddCommMonoid A] (o : ℕ) (sel : Fin 16 → Prop) [DecidablePred sel] (h : ∀ n, sel n → n.val < o) (g : Fin 16 → A) :
    (∑ j : Fin 16, if j.val < o then (if sel j then g j else 0) else 0) = ∑ j, if sel j then g j else 0 := by
  refine Finset.sum_congr rfl fun j _ => ?_
  by_cases hs : sel j
  · rw [if_pos (h j hs)]
  · simp [hs]

/-- The division at the end. -/
theorem finish_at (i : grid0.Coords) (x0 : Vec Ideal S256x128 .bf16) (xs0 : Vec Ideal S16x128 .bf16) (xs1 : Vec Ideal S16x128x256 .bf16) (q : Fin 256 → Fin 128 → ℝ) (k : Fin 4096 → Fin 128 → ℝ) (r : Fin 256) (d : Fin 128) (s : St) (m : ℝ)
    (h2 : s.2.1 (ix2 0 r) = ((((∑ l, ownW (i 1) (i 2) q k r l) + ∑ n, if chosen i x0 xs0 r n then ∑ l, pastW (i 1) (i 2) q k r n l else 0) * Real.exp (-m) : ℝ) : EReal))
    (h3' : s.2.2 (ix2 d r) = ((Real.exp (-m) : ℝ) : EReal) * ((∑ l, ((ownW (i 1) (i 2) q k r l : ℝ) : EReal) * xs1 (ix3 (i 2) d l))
      + ∑ n, if chosen i x0 xs0 r n then ∑ l, ((pastW (i 1) (i 2) q k r n l : ℝ) : EReal) * xs1 (ix3 n d l) else 0)) :
    (k0_pay1 (F := Ideal) (k0_pay58 s.2.1 s.2.2) : Vec Ideal S256x128 .bf16) (ix2 r d)
      = Moba.att (chosen i x0 xs0 r) (pastW (i 1) (i 2) q k r) (ownW (i 1) (i 2) q k r) (fun n l => xs1 (ix3 n d l)) (fun l => xs1 (ix3 (i 2) d l)) := by
  pointwise [k0_pay1, k0_pay58]
  rw [h2, h3', Moba.finish]
  · rfl
  · have h0 : ∀ n : Fin 16, 0 ≤ if chosen i x0 xs0 r n then ∑ l, pastW (i 1) (i 2) q k r n l else 0 := fun n => by
      split_ifs
      · exact Finset.sum_nonneg fun l _ => (Real.exp_pos _).le
      · exact le_rfl
    have h1 : 0 < ∑ l, ownW (i 1) (i 2) q k r l := by
      refine Finset.sum_pos' (fun l _ => ?_) ⟨r, Finset.mem_univ _, ?_⟩
      · unfold ownW; split_ifs
        · exact (Real.exp_pos _).le
        · exact le_rfl
      · unfold ownW; rw [if_pos le_rfl]; exact Real.exp_pos _
    exact add_pos_of_pos_of_nonneg h1 (Finset.sum_nonneg fun n _ => h0 n)

/-- WHAT A LATER POINT WRITES at query `r`, feature `d`: the attention over the chosen blocks and the own one. -/
theorem out0_B_at (c : Dev nD) (i : grid0.Coords) (arg3 : Memref sig .tc .vmem S256x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S256x128 .bf16) (harg6 : arg6.IsWhole) (arg7 : Memref sig .tc .vmem S16x128 .bf16) (harg7 : arg7.IsWhole) (arg8 : Memref sig .tc .vmem S16x128x256 .bf16) (harg8 : arg8.IsWhole) (arg9 : Memref sig .tc .vmem S16x256 .f32) (harg9 : arg9.IsWhole) (hc0 : ¬cond0_0 i) (x0 : Vec Ideal S256x128 .bf16) (x1 : Vec Ideal S4096x128 .bf16) (x2 : Vec Ideal S4096x128 .bf16) (xs0 : Vec Ideal S16x128 .bf16) (xs1 : Vec Ideal S16x128x256 .bf16)
    (q : Fin 256 → Fin 128 → ℝ) (k : Fin 4096 → Fin 128 → ℝ)
    (hq : ∀ r x, x0 (ix2 r x) = ((q r x : ℝ) : EReal)) (hk : ∀ p x, x1 (ix2 p x) = ((k p x : ℝ) : EReal)) (r : Fin 256) (d : Fin 128) :
    out0_B_3 (F := Ideal) c i arg3 harg3 arg4 harg4 arg5 harg5 arg6 harg6 arg7 harg7 arg8 harg8 arg9 harg9 hc0 x0 x1 x2 xs0 xs1 (ix2 r d)
      = Moba.att (chosen i x0 xs0 r) (pastW (i 1) (i 2) q k r) (ownW (i 1) (i 2) q k r) (fun n l => xs1 (ix3 n d l)) (fun l => xs1 (ix3 (i 2) d l)) := by
  rw [out0_B_eq, trips1]
  obtain ⟨m, -, h2, h3⟩ := loop_at c i arg3 harg3 arg4 harg4 arg5 harg5 arg6 harg6 arg7 harg7 arg8 harg8 arg9 harg9 x0 x1 xs1 (maskb i x0 xs0) q k hq hk r (chosen i x0 xs0 r)
    (fun n => maskb_at i x0 xs0 n r) (i 2).val le_rfl
  rw [sum_sel (i 2).val _ (fun n hn => hn.1)] at h2
  have h3' := h3 d
  rw [sum_sel (i 2).val _ (fun n hn => hn.1)] at h3'
  exact finish_at i x0 xs0 xs1 q k r d _ m h2 h3'

end Cert.KernelIdeal.Value
end
-- ==== Proof.MobaScratch.lean ====
/-
  The attention kernel's contents of its scratch: the means of the blocks of keys and the transposed values, and the first query block.
-/
module

public import proofs.«01_k».proof.Proof.Gen.KernelIdeal.Value
public import proofs.«01_k».proof.Proof.MobaLoop
public import Idealize.ShloMosaic.Lib.Pipeline.ValueKit
public import Idealize.ShloMosaic.Lib.Claim

@[expose] public section
set_option maxRecDepth 16384
noncomputable section
namespace Cert.KernelIdeal.Value
open Cert.KernelIdeal Cert.KernelIdeal.Gen Idealize.ShloMosaic Idealize.ShloMosaic.TcCoe Idealize.SL.Sem
open Idealize.ShloMosaic.Pipeline (Dat)
set_option maxHeartbeats 4000000

/-- The blocks of values, each transposed, as the first query block of a head leaves them. -/
def vtA (x2 : Vec Ideal S4096x128 .bf16) : Vec Ideal S16x128x256 .bf16 :=
  View.canon [⟨Rect.unit ![15, 0, 0] ![1, 128, 256] inb_S16x128x256_S1x128x256_15_0_0, k0_pay20 (View.ld x2 (Rect.unit ![3840, 0] ![256, 128] inb_S4096x128_S256x128_3840_0))⟩,
    ⟨Rect.unit ![14, 0, 0] ![1, 128, 256] inb_S16x128x256_S1x128x256_14_0_0, k0_pay19 (View.ld x2 (Rect.unit ![3584, 0] ![256, 128] inb_S4096x128_S256x128_3584_0))⟩,
    ⟨Rect.unit ![13, 0, 0] ![1, 128, 256] inb_S16x128x256_S1x128x256_13_0_0, k0_pay18 (View.ld x2 (Rect.unit ![3328, 0] ![256, 128] inb_S4096x128_S256x128_3328_0))⟩,
    ⟨Rect.unit ![12, 0, 0] ![1, 128, 256] inb_S16x128x256_S1x128x256_12_0_0, k0_pay17 (View.ld x2 (Rect.unit ![3072, 0] ![256, 128] inb_S4096x128_S256x128_3072_0))⟩,
    ⟨Rect.unit ![11, 0, 0] ![1, 128, 256] inb_S16x128x256_S1x128x256_11_0_0, k0_pay16 (View.ld x2 (Rect.unit ![2816, 0] ![256, 128] inb_S4096x128_S256x128_2816_0))⟩,
    ⟨Rect.unit ![10, 0, 0] ![1, 128, 256] inb_S16x128x256_S1x128x256_10_0_0, k0_pay15 (View.ld x2 (Rect.unit ![2560, 0] ![256, 128] inb_S4096x128_S256x128_2560_0))⟩,
    ⟨Rect.unit ![9, 0, 0] ![1, 128, 256] inb_S16x128x256_S1x128x256_9_0_0, k0_pay14 (k0_pay13 (View.ld x2 (Rect.unit ![2304, 0] ![256, 128] inb_S4096x128_S256x128_2304_0)))⟩,
    ⟨Rect.unit ![8, 0, 0] ![1, 128, 256] inb_S16x128x256_S1x128x256_8_0_0, k0_pay12 (View.ld x2 (Rect.unit ![2048, 0] ![256, 128] inb_S4096x128_S256x128_2048_0))⟩,
    ⟨Rect.unit ![7, 0, 0] ![1, 128, 256] inb_S16x128x256_S1x128x256_7_0_0, k0_pay11 (View.ld x2 (Rect.unit ![1792, 0] ![256, 128] inb_S4096x128_S256x128_1792_0))⟩,
    ⟨Rect.unit ![6, 0, 0] ![1, 128, 256] inb_S16x128x256_S1x128x256_6_0_0, k0_pay10 (View.ld x2 (Rect.unit ![1536, 0] ![256, 128] inb_S4096x128_S256x128_1536_0))⟩,
    ⟨Rect.unit ![5, 0, 0] ![1, 128, 256] inb_S16x128x256_S1x128x256_5_0_0, k0_pay9 (View.ld x2 (Rect.unit ![1280, 0] ![256, 128] inb_S4096x128_S256x128_1280_0))⟩,
    ⟨Rect.unit ![4, 0, 0] ![1, 128, 256] inb_S16x128x256_S1x128x256_4_0_0, k0_pay8 (View.ld x2 (Rect.unit ![1024, 0] ![256, 128] inb_S4096x128_S256x128_1024_0))⟩,
    ⟨Rect.unit ![3, 0, 0] ![1, 128, 256] inb_S16x128x256_S1x128x256_3_0_0, k0_pay7 (View.ld x2 (Rect.unit ![768, 0] ![256, 128] inb_S4096x128_S256x128_768_0))⟩,
    ⟨Rect.unit ![2, 0, 0] ![1, 128, 256] inb_S16x128x256_S1x128x256_2_0_0, k0_pay6 (View.ld x2 (Rect.unit ![512, 0] ![256, 128] inb_S4096x128_S256x128_512_0))⟩,
    ⟨Rect.unit ![1, 0, 0] ![1, 128, 256] inb_S16x128x256_S1x128x256_1_0_0, k0_pay5 (View.ld x2 (Rect.unit ![256, 0] ![256, 128] inb_S4096x128_S256x128_256_0))⟩,
    ⟨Rect.unit ![0, 0, 0] ![1, 128, 256] inb_S16x128x256_S1x128x256_0_0_0, k0_pay4 (k0_pay3 (View.ld x2 (Rect.unit ![0, 0] ![256, 128] inb_S4096x128_S256x128_0_0)))⟩]

/-- One transposed block at an entry. -/
theorem pay5_at (v : Vec Ideal S256x128 .bf16) (x : S1x128x256.Idx) : k0_pay5 (F := Ideal) v x = v (ix2 (x 2) (x 1)) := by
  pointwise [k0_pay5]

/-- One stored block, transposed, is the values' rows from row `o` on. -/
theorem piece_at (x2 : Vec Ideal S4096x128 .bf16) (o n : ℕ) (ho : o = 256 * n) (h : ∀ a : Fin 2, (![o, 0] : Fin 2 → ℕ) a + (![256, 128] : Fin 2 → ℕ) a ≤ S4096x128.size a) (x : S1x128x256.Idx) (y : S16x128x256.Idx)
    (h0 : (y 0).val = n) (h1 : (y 1).val = (x 1).val) (h2 : (y 2).val = (x 2).val) :
    k0_pay5 (F := Ideal) (View.ld x2 (Rect.unit (s := S4096x128) ![o, 0] ![256, 128] h)) x = x2 (ix2 (row (y 0) (y 2)) (y 1)) := by
  rw [pay5_at]
  refine View.ld_unit_apply_of _ _ _ _ _ _ fun a => ?_
  fin_cases a
  · show 256 * (y 0).val + (y 2).val = o + (x 2).val
    rw [h0, h2, ho]
  · show (y 1).val = 0 + (x 1).val
    rw [h1, Nat.zero_add]

/-- The transposed values, entry by entry. -/
theorem vtA_at (x2 : Vec Ideal S4096x128 .bf16) (y : S16x128x256.Idx) : vtA x2 y = x2 (ix2 (row (y 0) (y 2)) (y 1)) := by
  unfold vtA
  canon_tiles x h
  · exact piece_at x2 3840 15 rfl inb_S4096x128_S256x128_3840_0 x y (by omega) h1 h2
  · exact piece_at x2 3584 14 rfl inb_S4096x128_S256x128_3584_0 x y (by omega) h1 h2
  · exact piece_at x2 3328 13 rfl inb_S4096x128_S256x128_3328_0 x y (by omega) h1 h2
  · exact piece_at x2 3072 12 rfl inb_S4096x128_S256x128_3072_0 x y (by omega) h1 h2
  · exact piece_at x2 2816 11 rfl inb_S4096x128_S256x128_2816_0 x y (by omega) h1 h2
  · exact piece_at x2 2560 10 rfl inb_S4096x128_S256x128_2560_0 x y (by omega) h1 h2
  · exact piece_at x2 2304 9 rfl inb_S4096x128_S256x128_2304_0 x y (by omega) h1 h2
  · exact piece_at x2 2048 8 rfl inb_S4096x128_S256x128_2048_0 x y (by omega) h1 h2
  · exact piece_at x2 1792 7 rfl inb_S4096x128_S256x128_1792_0 x y (by omega) h1 h2
  · exact piece_at x2 1536 6 rfl inb_S4096x128_S256x128_1536_0 x y (by omega) h1 h2
  · exact piece_at x2 1280 5 rfl inb_S4096x128_S256x128_1280_0 x y (by omega) h1 h2
  · exact piece_at x2 1024 4 rfl inb_S4096x128_S256x128_1024_0 x y (by omega) h1 h2
  · exact piece_at x2 768 3 rfl inb_S4096x128_S256x128_768_0 x y (by omega) h1 h2
  · exact piece_at x2 512 2 rfl inb_S4096x128_S256x128_512_0 x y (by omega) h1 h2
  · exact piece_at x2 256 1 rfl inb_S4096x128_S256x128_256_0 x y (by omega) h1 h2
  · exact piece_at x2 0 0 rfl inb_S4096x128_S256x128_0_0 x y (by omega) h1 h2

/-- The block a row lies in, as the kernel counts it. -/
theorem block_of : ∀ p : Fin 4096,
    (Scalar.select (IntOp.andi (IntOp.cmpi CmpIPredicate.ne
                  (IntOp.subi (BitVec.setWidth 32 (IntOp.cmpi CmpIPredicate.sgt (BitVec.ofNat 32 ↑p) 0#32))
                    (BitVec.setWidth 32 (IntOp.cmpi CmpIPredicate.slt (BitVec.ofNat 32 ↑p) 0#32)))
                  (Scalar.subi (Scalar.extui (Scalar.cmpi CmpIPredicate.sgt 256#32 0#32))
                    (Scalar.extui (Scalar.cmpi CmpIPredicate.slt 256#32 0#32))))
                (IntOp.cmpi CmpIPredicate.ne (IntOp.remsi ArithUnit.vector (BitVec.ofNat 32 ↑p) 256#32) 0#32))
              (IntOp.subi (IntOp.divsi ArithUnit.vector (BitVec.ofNat 32 ↑p) 256#32) 1#32)
              (IntOp.divsi ArithUnit.vector (BitVec.ofNat 32 ↑p) 256#32)) = BitVec.ofNat 32 (p.val / 256) := by
  decide +kernel

/-- Equal block numbers. -/
theorem eq_block : ∀ a b : Fin 16, IntOp.cmpi .eq (BitVec.ofNat 32 a.val) (BitVec.ofNat 32 b.val) = BitVec.ofBool (decide (a = b)) := by
  decide

/-- A sum over all rows is the sum over the blocks and the rows of each. -/
theorem sum_rows {A : Type} [AddCommMonoid A] (f : Fin 4096 → A) : ∑ p, f p = ∑ n, ∑ l, f (row n l) := by
  rw [← Fintype.sum_prod_type']
  refine (Fintype.sum_equiv (finProdFinEquiv (m := 16) (n := 256)) _ f fun x => ?_).symm
  refine congrArg f (Fin.ext ?_)
  show 256 * x.1.val + x.2.val = x.2.val + 256 * x.1.val
  omega

/-- The means of the blocks of keys, entry by entry. -/
theorem pay2_at (x1 : Vec Ideal S4096x128 .bf16) (n : Fin 16) (x : Fin 128) :
    k0_pay2 (F := Ideal) x1 (ix2 n x) = (∑ l, x1 (ix2 (row n l) x)) * ((1 / 256 : ℝ) : EReal) := by
  pointwise [k0_pay2]
  rw [Moba.const_inv256]
  refine congrArg (· * ((1 / 256 : ℝ) : EReal)) ?_
  rw [sum_rows]
  simp only [block_of]
  have h : ∀ (a : Fin 16) (l : Fin 256), (row a l).val / 256 = a.val := fun a l => by
    have := l.isLt
    show (256 * a.val + l.val) / 256 = a.val
    omega
  simp only [h, eq_block]
  rw [Finset.sum_eq_single n]
  · refine Finset.sum_congr rfl fun l _ => ?_
    simp [Scalar.select]
  · intro b _ hb
    refine Finset.sum_eq_zero fun l _ => ?_
    simp [Scalar.select, hb]
  · intro h; exact absurd (Finset.mem_univ _) h

/-- The first query block is block zero. -/
theorem first_block (i : grid0.Coords) (h : cond0_0 i) : (i 2).val = 0 := by
  have h' : ∀ a : Fin 16, (Scalar.cmpi .ne (Scalar.extui (Scalar.cmpi .eq (BitVec.ofNat 32 a.val) 0#32)) 0#32) = 1#1 → a.val = 0 := by decide
  exact h' (i 2) h

/-- What the first point of a head leaves as the means. -/
theorem sout_A_0 (c : Dev nD) (i : grid0.Coords) (arg3 : Memref sig .tc .vmem S256x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S256x128 .bf16) (harg6 : arg6.IsWhole) (arg7 : Memref sig .tc .vmem S16x128 .bf16) (harg7 : arg7.IsWhole) (arg8 : Memref sig .tc .vmem S16x128x256 .bf16) (harg8 : arg8.IsWhole) (arg9 : Memref sig .tc .vmem S16x256 .f32) (harg9 : arg9.IsWhole) (hc0 : cond0_0 i) (x0 : Vec Ideal S256x128 .bf16) (x1 : Vec Ideal S4096x128 .bf16) (x2 : Vec Ideal S4096x128 .bf16) :
    sout0_A_0 (F := Ideal) c i arg3 harg3 arg4 harg4 arg5 harg5 arg6 harg6 arg7 harg7 arg8 harg8 arg9 harg9 hc0 x0 x1 x2 = k0_pay2 x1 := by
  frame_out

/-- What the first point of a head leaves as the transposed values. -/
theorem sout_A_1 (c : Dev nD) (i : grid0.Coords) (arg3 : Memref sig .tc .vmem S256x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S256x128 .bf16) (harg6 : arg6.IsWhole) (arg7 : Memref sig .tc .vmem S16x128 .bf16) (harg7 : arg7.IsWhole) (arg8 : Memref sig .tc .vmem S16x128x256 .bf16) (harg8 : arg8.IsWhole) (arg9 : Memref sig .tc .vmem S16x256 .f32) (harg9 : arg9.IsWhole) (hc0 : cond0_0 i) (x0 : Vec Ideal S256x128 .bf16) (x1 : Vec Ideal S4096x128 .bf16) (x2 : Vec Ideal S4096x128 .bf16) :
    sout0_A_1 (F := Ideal) c i arg3 harg3 arg4 harg4 arg5 harg5 arg6 harg6 arg7 harg7 arg8 harg8 arg9 harg9 hc0 x0 x1 x2 = vtA x2 := by
  frame_out

/-- WHAT THE FIRST POINT OF A HEAD WRITES: the own block alone. -/
theorem out0_A_eq (c : Dev nD) (i : grid0.Coords) (arg3 : Memref sig .tc .vmem S256x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S256x128 .bf16) (harg6 : arg6.IsWhole) (arg7 : Memref sig .tc .vmem S16x128 .bf16) (harg7 : arg7.IsWhole) (arg8 : Memref sig .tc .vmem S16x128x256 .bf16) (harg8 : arg8.IsWhole) (arg9 : Memref sig .tc .vmem S16x256 .f32) (harg9 : arg9.IsWhole) (hc0 : cond0_0 i) (x0 : Vec Ideal S256x128 .bf16) (x1 : Vec Ideal S4096x128 .bf16) (x2 : Vec Ideal S4096x128 .bf16) :
    out0_A_3 (F := Ideal) c i arg3 harg3 arg4 harg4 arg5 harg5 arg6 harg6 arg7 harg7 arg8 harg8 arg9 harg9 hc0 x0 x1 x2
      = (k0_pay1 (k0_pay58 (initF i x0 x1 (vtA x2)).2.1 (initF i x0 x1 (vtA x2)).2.2) : Vec Ideal S256x128 .bf16) := by
  have h0 := first_block i hc0
  frame_out
  rw [trips2 (i 2)]
  have h1 : Scf.trips (0#32) (Scalar.addi (0#32) (Scalar.muli (Scalar.divsi (Scalar.subi (BitVec.ofNat 32 (i 2).val) 0#32) 1#32) 1#32)) 1#32 = 0 := by
    rw [h0]; decide
  rw [h1]
  rfl

/-- WHAT THE FIRST POINT OF A HEAD WRITES at query `r`, feature `d`. -/
theorem out0_A_at (c : Dev nD) (i : grid0.Coords) (arg3 : Memref sig .tc .vmem S256x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S256x128 .bf16) (harg6 : arg6.IsWhole) (arg7 : Memref sig .tc .vmem S16x128 .bf16) (harg7 : arg7.IsWhole) (arg8 : Memref sig .tc .vmem S16x128x256 .bf16) (harg8 : arg8.IsWhole) (arg9 : Memref sig .tc .vmem S16x256 .f32) (harg9 : arg9.IsWhole) (hc0 : cond0_0 i) (x0 : Vec Ideal S256x128 .bf16) (x1 : Vec Ideal S4096x128 .bf16) (x2 : Vec Ideal S4096x128 .bf16)
    (q : Fin 256 → Fin 128 → ℝ) (k : Fin 4096 → Fin 128 → ℝ)
    (hq : ∀ r x, x0 (ix2 r x) = ((q r x : ℝ) : EReal)) (hk : ∀ p x, x1 (ix2 p x) = ((k p x : ℝ) : EReal)) (r : Fin 256) (d : Fin 128) :
    out0_A_3 (F := Ideal) c i arg3 harg3 arg4 harg4 arg5 harg5 arg6 harg6 arg7 harg7 arg8 harg8 arg9 harg9 hc0 x0 x1 x2 (ix2 r d)
      = Moba.att (chosen i x0 (k0_pay2 x1) r) (pastW (i 1) (i 2) q k r) (ownW (i 1) (i 2) q k r) (fun n l => vtA x2 (ix3 n d l)) (fun l => vtA x2 (ix3 (i 2) d l)) := by
  rw [out0_A_eq]
  obtain ⟨m, -, h2, h3⟩ := loop_at c i arg3 harg3 arg4 harg4 arg5 harg5 arg6 harg6 arg7 harg7 arg8 harg8 arg9 harg9 x0 x1 (vtA x2) (maskb i x0 (k0_pay2 x1)) q k hq hk r (chosen i x0 (k0_pay2 x1) r)
    (fun n => maskb_at i x0 (k0_pay2 x1) n r) (i 2).val le_rfl
  have h0 : (i 2).val = 0 := first_block i hc0
  rw [sum_sel (i 2).val _ (fun n hn => hn.1)] at h2
  have h3' := h3 d
  rw [sum_sel (i 2).val _ (fun n hn => hn.1)] at h3'
  rw [h0, st_k0_t1_zero] at h2 h3'
  exact finish_at i x0 (k0_pay2 x1) (vtA x2) q k r d _ m h2 h3'

end Cert.KernelIdeal.Value
end
-- ==== Proof.MobaFinal.lean ====
/-
  The attention kernel's result array: entry by entry, the attention over the chosen blocks and the own one.
-/
module

public import proofs.«01_k».proof.Proof.Gen.KernelIdeal.Value
public import proofs.«01_k».proof.Proof.MobaScratch
public import Idealize.ShloMosaic.Lib.Pipeline.ValueKit
public import Idealize.ShloMosaic.Lib.Pipeline.Covers
public import Idealize.ShloMosaic.Lib.Claim

@[expose] public section
set_option maxRecDepth 16384
noncomputable section
namespace Cert.KernelIdeal.Value
open Cert.KernelIdeal Cert.KernelIdeal.Gen Idealize.ShloMosaic Idealize.ShloMosaic.TcCoe Idealize.SL.Sem
open Idealize.ShloMosaic.Pipeline (Dat)
set_option maxHeartbeats 4000000

/-- Row `p` of batch `b` in the flattened input. -/
def seqRow (b : Fin 8) (p : Fin 4096) : Fin 32768 := ⟨4096 * b.val + p.val, by have := b.isLt; have := p.isLt; omega⟩

/-- Column `x` of head `h` in part `s` (queries, keys, values) of the input. -/
def col (s : Fin 3) (h : Fin 8) (x : Fin 128) : Fin 3072 :=
  ⟨1024 * s.val + 128 * h.val + x.val, by have := s.isLt; have := h.isLt; have := x.isLt; omega⟩

/-- The block of queries `i` of head `h` in batch `b`. -/
def qBlk (X : FVec Ideal S32768x3072 .bf16) (b h : Fin 8) (i : Fin 16) : Vec Ideal S256x128 .bf16 :=
  fun y => X (ix2 (seqRow b (row i (y 0))) (col 0 h (y 1)))

/-- The keys of head `h` in batch `b`. -/
def kBlk (X : FVec Ideal S32768x3072 .bf16) (b h : Fin 8) : Vec Ideal S4096x128 .bf16 :=
  fun y => X (ix2 (seqRow b (y 0)) (col 1 h (y 1)))

/-- The values of head `h` in batch `b`. -/
def vBlk (X : FVec Ideal S32768x3072 .bf16) (b h : Fin 8) : Vec Ideal S4096x128 .bf16 :=
  fun y => X (ix2 (seqRow b (y 0)) (col 2 h (y 1)))

/-- The batch of a grid point. -/
def bOf (t : Fin cfg0.N) : Fin 8 := ⟨t.val / 128, by have : t.val < 1024 := lt_of_lt_of_eq t.isLt N_0; omega⟩

/-- The head of a grid point. -/
def hOf (t : Fin cfg0.N) : Fin 8 := ⟨t.val / 16 % 8, Nat.mod_lt _ (by decide)⟩

/-- The query block of a grid point. -/
def iOf (t : Fin cfg0.N) : Fin 16 := ⟨t.val % 16, Nat.mod_lt _ (by decide)⟩

/-- The windows' block indices at every grid point. -/
theorem idx : ∀ t : Fin cfg0.N, win0_0.index t = ![t.val / 128 * 16 + t.val % 16, t.val / 16 % 8] ∧ win0_1.index t = ![t.val / 128, 8 + t.val / 16 % 8] ∧
    win0_2.index t = ![t.val / 128, 16 + t.val / 16 % 8] ∧ win0_3.index t = ![t.val / 128 * 16 + t.val % 16, t.val / 16 % 8] :=
  (by decide +kernel : ∀ t : Fin grid0.N, _)

/-- The coordinates of a grid point. -/
theorem coords_at : ∀ t : Fin cfg0.N, ((grid0.coords t) 1).val = t.val / 16 % 8 ∧ ((grid0.coords t) 2).val = t.val % 16 :=
  (by decide +kernel : ∀ t : Fin grid0.N, _)

variable (m : (ℓ : Loc nD τ sig) → Buf (Elt Ideal) ℓ)

/-- The flattened queries, keys and values of one device. -/
abbrev Xof (c : Dev nD) : FVec Ideal S32768x3072 .bf16 := m ((c : Thread nD τ).loc main_arg0)

theorem iblk0 (c : Dev nD) (t : Fin cfg0.N) : iblk m c 0 t = qBlk (Xof m c) (bOf t) (hOf t) (iOf t) := by
  funext y
  unfold qBlk seqRow row col bOf hOf iOf
  blk_ext [iblk, V, idx t]

theorem iblk1 (c : Dev nD) (t : Fin cfg0.N) : iblk m c 1 t = kBlk (Xof m c) (bOf t) (hOf t) := by
  funext y
  unfold kBlk seqRow col bOf hOf
  blk_ext [iblk, V, idx t]

theorem iblk2 (c : Dev nD) (t : Fin cfg0.N) : iblk m c 2 t = vBlk (Xof m c) (bOf t) (hOf t) := by
  funext y
  unfold vBlk seqRow col bOf hOf
  blk_ext [iblk, V, idx t]

/-- THE SCRATCH after any point: the means of the head's keys and its transposed values. -/
theorem scratch (c : Dev nD) : ∀ (n : ℕ) (hn : n < cfg0.N),
    (outsAt0 m c n hn).2.1 = k0_pay2 (kBlk (Xof m c) (bOf ⟨n, hn⟩) (hOf ⟨n, hn⟩))
    ∧ (outsAt0 m c n hn).2.2 = vtA (vBlk (Xof m c) (bOf ⟨n, hn⟩) (hOf ⟨n, hn⟩)) := by
  intro n
  induction n with
  | zero =>
    intro hn
    rw [outsAt0_A m c ⟨0, hn⟩ (Nat.zero_mod _)]
    dsimp only
    rw [sout_A_0, sout_A_1, iblk1, iblk2]
    exact ⟨rfl, rfl⟩
  | succ n ih =>
    intro hn
    by_cases h0 : (n + 1) % 16 = 0
    · rw [outsAt0_A m c ⟨n + 1, hn⟩ h0]
      dsimp only
      rw [sout_A_0, sout_A_1, iblk1, iblk2]
      exact ⟨rfl, rfl⟩
    · rw [outsAt0_B m c ⟨n + 1, hn⟩ h0]
      obtain ⟨h1, h2⟩ := ih (Nat.lt_of_succ_lt hn)
      have hb : bOf ⟨n + 1, hn⟩ = bOf ⟨n, Nat.lt_of_succ_lt hn⟩ := Fin.ext (by show (n + 1) / 128 = n / 128; omega)
      have hh : hOf ⟨n + 1, hn⟩ = hOf ⟨n, Nat.lt_of_succ_lt hn⟩ := Fin.ext (by show (n + 1) / 16 % 8 = n / 16 % 8; omega)
      rw [hb, hh]
      exact ⟨h1, h2⟩

/-- Attention over equally chosen blocks. -/
theorem att_congr (sel sel' : Fin 16 → Prop) [DecidablePred sel] [DecidablePred sel'] (h : ∀ n, sel n ↔ sel' n) (W : Fin 16 → Fin 256 → ℝ) (w : Fin 256 → ℝ)
    (V V' : Fin 16 → Fin 256 → EReal) (hV : ∀ n l, V n l = V' n l) (v v' : Fin 256 → EReal) (hv : ∀ l, v l = v' l) : Moba.att sel W w V v = Moba.att sel' W w V' v' := by
  have e : sel = sel' := funext fun n => propext (h n)
  have e2 : V = V' := funext fun n => funext fun l => hV n l
  have e3 : v = v' := funext hv
  subst e e2 e3
  congr!

/-- A query as reals. -/
def qR (X : FVec Ideal S32768x3072 .bf16) (b h : Fin 8) (i : Fin 16) (r : Fin 256) (x : Fin 128) : ℝ :=
  (X (ix2 (seqRow b (row i r)) (col 0 h x))).toReal

/-- A key as reals. -/
def kR (X : FVec Ideal S32768x3072 .bf16) (b h : Fin 8) (p : Fin 4096) (x : Fin 128) : ℝ :=
  (X (ix2 (seqRow b p) (col 1 h x))).toReal

/-- The gate of block `n` for query `r` of block `i`: the query times the block's mean key; minus infinity from the own block on. -/
def gateX (X : FVec Ideal S32768x3072 .bf16) (b h : Fin 8) (i : Fin 16) (r : Fin 256) (n : Fin 16) : EReal :=
  if n.val < i.val then ∑ x : Fin 128, ((∑ l, X (ix2 (seqRow b (row n l)) (col 1 h x))) * ((1 / 256 : ℝ) : EReal)) * X (ix2 (seqRow b (row i r)) (col 0 h x)) else ⊥

/-- The chosen blocks: those before the own one whose gate is among the three largest. -/
def chosenX (X : FVec Ideal S32768x3072 .bf16) (b h : Fin 8) (i : Fin 16) (r : Fin 256) (n : Fin 16) : Prop :=
  n.val < i.val ∧ Moba.rank (gateX X b h i r) n < 3

instance (X : FVec Ideal S32768x3072 .bf16) (b h : Fin 8) (i : Fin 16) (r : Fin 256) : DecidablePred (chosenX X b h i r) :=
  fun n => by unfold chosenX; infer_instance

/-- ONE ENTRY OF THE ATTENTION: the weights over the chosen blocks and the own one, normalised, times the values. -/
def spec (X : FVec Ideal S32768x3072 .bf16) (b h : Fin 8) (i : Fin 16) (r : Fin 256) (d : Fin 128) : EReal :=
  Moba.att (chosenX X b h i r) (pastW h i (qR X b h i) (kR X b h) r) (ownW h i (qR X b h i) (kR X b h) r)
    (fun n l => X (ix2 (seqRow b (row n l)) (col 2 h d))) (fun l => X (ix2 (seqRow b (row i l)) (col 2 h d)))

/-- The queries and the keys are reals. -/
def FiniteQK (X : FVec Ideal S32768x3072 .bf16) : Prop :=
  ∀ (a : Fin 32768) (s : Fin 3) (h : Fin 8) (x : Fin 128), s.val < 2 → X (ix2 a (col s h x)) = (((X (ix2 a (col s h x))).toReal : ℝ) : EReal)

/-- The kernel's choice is that choice. -/
theorem chosen_iff (X : FVec Ideal S32768x3072 .bf16) (b h : Fin 8) (j : Fin 16) (i : grid0.Coords) (hi : (i 2).val = j.val) (r : Fin 256) (n : Fin 16) :
    chosen i (qBlk X b h j) (k0_pay2 (kBlk X b h)) r n ↔ chosenX X b h j r n := by
  have e : gates i (qBlk X b h j) (k0_pay2 (kBlk X b h)) r = gateX X b h j r := by
    funext n
    unfold gates gateX
    rw [hi]
    refine if_congr Iff.rfl (Finset.sum_congr rfl fun x _ => ?_) rfl
    rw [pay2_at]
    rfl
  unfold chosen chosenX
  rw [e, hi]

/-- WHAT A POINT WRITES, entry by entry. -/
theorem point (c : Dev nD) (hX : FiniteQK (Xof m c)) (t : Fin cfg0.N) (r : Fin 256) (d : Fin 128) :
    (outsAt0 m c t.val t.isLt).1 (ix2 r d) = spec (Xof m c) (bOf t) (hOf t) (iOf t) r d := by
  obtain ⟨e1, e2⟩ := coords_at t
  have f1 : (grid0.coords t) 1 = hOf t := Fin.ext e1
  have f2 : (grid0.coords t) 2 = iOf t := Fin.ext e2
  have hq : ∀ r x, qBlk (Xof m c) (bOf t) (hOf t) (iOf t) (ix2 r x) = ((qR (Xof m c) (bOf t) (hOf t) (iOf t) r x : ℝ) : EReal) :=
    fun r x => hX _ _ _ _ (by decide)
  have hk : ∀ p x, kBlk (Xof m c) (bOf t) (hOf t) (ix2 p x) = ((kR (Xof m c) (bOf t) (hOf t) p x : ℝ) : EReal) :=
    fun r x => hX _ _ _ _ (by decide)
  by_cases h0 : t.val % 16 = 0
  · rw [outsAt0_A m c t h0]
    dsimp only
    rw [iblk0, iblk1, iblk2, out0_A_at (q := qR (Xof m c) (bOf t) (hOf t) (iOf t)) (k := kR (Xof m c) (bOf t) (hOf t)) (hq := hq) (hk := hk)]
    rw [f1, f2]
    refine att_congr _ _ (fun n => chosen_iff (Xof m c) (bOf t) (hOf t) (iOf t) (grid0.coords t) e2 r n) _ _ _ _ (fun n l => ?_) _ _ (fun l => ?_)
    · exact vtA_at _ _
    · exact vtA_at _ _
  · rw [outsAt0_B m c t h0]
    dsimp only
    have hp : t.val - 1 < cfg0.N := Nat.lt_of_le_of_lt (Nat.sub_le _ _) t.isLt
    obtain ⟨h1, h2⟩ := scratch m c (t.val - 1) hp
    have hb : bOf ⟨t.val - 1, hp⟩ = bOf t := Fin.ext (by show (t.val - 1) / 128 = t.val / 128; omega)
    have hh : hOf ⟨t.val - 1, hp⟩ = hOf t := Fin.ext (by show (t.val - 1) / 16 % 8 = t.val / 16 % 8; omega)
    rw [hb, hh] at h1 h2
    rw [h1, h2, iblk0, iblk1, iblk2, out0_B_at (q := qR (Xof m c) (bOf t) (hOf t) (iOf t)) (k := kR (Xof m c) (bOf t) (hOf t)) (hq := hq) (hk := hk)]
    rw [f1, f2]
    refine att_congr _ _ (fun n => chosen_iff (Xof m c) (bOf t) (hOf t) (iOf t) (grid0.coords t) e2 r n) _ _ _ _ (fun n l => ?_) _ _ (fun l => ?_)
    · exact vtA_at _ _
    · exact vtA_at _ _

/-- The attention's result array. -/
def specArr (X : FVec Ideal S32768x3072 .bf16) : FVec Ideal S32768x1024 .bf16 := fun y =>
  spec X ⟨(y 0).val / 4096, by have : (y 0).val < 32768 := (y 0).isLt; omega⟩ ⟨(y 1).val / 128, by have : (y 1).val < 1024 := (y 1).isLt; omega⟩
    ⟨(y 0).val / 256 % 16, Nat.mod_lt _ (by decide)⟩ ⟨(y 0).val % 256, Nat.mod_lt _ (by decide)⟩ ⟨(y 1).val % 128, Nat.mod_lt _ (by decide)⟩

/-- Every block of the result is written. -/
theorem covers3 : (cfg0.win 3).Covers := by
  refine (cfg0.win 3).covers_of_index_surj rfl (by decide) fun β => ?_
  have h0 : (β 0).val < 128 := (β 0).isLt
  have h1 : (β 1).val < 8 := (β 1).isLt
  have hlt : (β 0).val / 16 * 128 + (β 1).val * 16 + (β 0).val % 16 < cfg0.N := by
    rw [show cfg0.N = 1024 from N_0]; omega
  refine ⟨⟨_, hlt⟩, ?_⟩
  have e : (cfg0.win 3).index ⟨_, hlt⟩ = _ := (idx ⟨_, hlt⟩).2.2.2
  intro a
  rw [e]
  fin_cases a
  · show ((β 0).val / 16 * 128 + (β 1).val * 16 + (β 0).val % 16) / 128 * 16 + ((β 0).val / 16 * 128 + (β 1).val * 16 + (β 0).val % 16) % 16 = (β 0).val
    omega
  · show ((β 0).val / 16 * 128 + (β 1).val * 16 + (β 0).val % 16) / 16 % 8 = (β 1).val
    omega

/-- THE KERNEL'S RESULT ARRAY. -/
theorem kernel_final (c : Dev nD) (hX : FiniteQK (Xof m c)) : (dats m 0 c).arrAt 3 (cfgs 0).N = specArr (Xof m c) := by
  refine (dats m 0 c).arrAt_eq_of_covers 3 _ covers3 fun t _ y => ?_
  blk_simp
  rw [after0_3]
  have ht : t.val < 1024 := lt_of_lt_of_eq t.isLt N_0
  have hy0 : (y 0).val < 256 := (y 0).isLt
  have hy1 : (y 1).val < 128 := (y 1).isLt
  have hy : y = ix2 (y 0) (y 1) := by funext a; fin_cases a <;> rfl
  have e0 : ((((cfg0.win 3).blk t).view.emb y) 0).val = (t.val / 128 * 16 + t.val % 16) * 256 + (y 0).val := by
    blk_simp [idx t]
  have e1 : ((((cfg0.win 3).blk t).view.emb y) 1).val = (t.val / 16 % 8) * 128 + (y 1).val := by
    blk_simp [idx t]
  refine (congrArg (outsAt0 m c t.val t.isLt).1 hy).trans ((point m c hX t (y 0) (y 1)).trans ?_)
  unfold specArr
  have g : ∀ (b b' h h' : Fin 8) (i i' : Fin 16) (r r' : Fin 256) (d d' : Fin 128), b = b' → h = h' → i = i' → r = r' → d = d' →
      spec (Xof m c) b h i r d = spec (Xof m c) b' h' i' r' d' := by
    intro b b' h h' i i' r r' d d' e1 e2 e3 e4 e5
    subst e1 e2 e3 e4 e5
    rfl
  refine g _ _ _ _ _ _ _ _ _ _ (Fin.ext ?_) (Fin.ext ?_) (Fin.ext ?_) (Fin.ext ?_) (Fin.ext ?_)
  · show t.val / 128 = _ / 4096
    rw [e0]; omega
  · show t.val / 16 % 8 = _ / 128
    rw [e1]; omega
  · show t.val % 16 = _ / 256 % 16
    rw [e0]; omega
  · show (y 0).val = _ % 256
    rw [e0]; omega
  · show (y 1).val = _ % 128
    rw [e1]; omega

end Cert.KernelIdeal.Value
end
-- ==== Proof.MobaRef.lean ====
/-
  The reference's attention, operation by operation at one query: its logits, the blocks it chooses and the weights.
-/
module

public import proofs.«01_k».proof.Proof.MobaFinal
public import proofs.«01_k».proof.Proof.Gen.ReferenceIdeal.Run
public import Idealize.ShloMosaic.Lib.Pipeline.ValueKit

@[expose] public section
set_option maxRecDepth 16384
noncomputable section
namespace Cert.ReferenceIdeal.Value
open Cert.ReferenceIdeal Cert.ReferenceIdeal.Gen Idealize.ShloMosaic Idealize.ShloMosaic.TcCoe Idealize.SL.Sem
open Idealize.ShloMosaic.StableHlo
open Cert.KernelIdeal.Value (row seqRow col gateX chosenX spec slope)
set_option maxHeartbeats 4000000

variable (V0 : Valuation τ sig (Elt Ideal))

/-- The flattened input. -/
abbrev Xin : FVec Ideal S32768x3072 .bf16 := V0 (Proc.devRef .tc main_arg0)

/-- The input by batch and position. -/
theorem v1_at (b : Fin 8) (p : Fin 4096) (x : Fin 3072) : res_main_v1 V0 (ix3 b p x) = Xin V0 (ix2 (seqRow b p) x) := by
  pointwise [res_main_v1]
  refine congrArg (fun a => V0 (Proc.tc.devRef main_arg0) (ix2 a x)) (Fin.ext ?_)
  show b.val * 4096 + p.val = 4096 * b.val + p.val
  omega

/-- The queries. -/
theorem v4_at (b h : Fin 8) (p : Fin 4096) (x : Fin 128) : res_main_v4 V0 (ix4 b h p x) = Xin V0 (ix2 (seqRow b p) (col 0 h x)) := by
  pointwise [res_main_v4]
  rw [v1_at]
  refine congrArg (fun a => Xin V0 (ix2 (seqRow b p) a)) (Fin.ext ?_)
  show h.val * 128 + x.val = 1024 * 0 + 128 * h.val + x.val
  omega

/-- The keys by blocks. -/
theorem v11_at (b h : Fin 8) (n : Fin 16) (l : Fin 256) (x : Fin 128) : res_main_v11 V0 (ix5 b h n l x) = Xin V0 (ix2 (seqRow b (row n l)) (col 1 h x)) := by
  pointwise [res_main_v11]
  rw [v1_at]
  refine congrArg₂ (fun p a => Xin V0 (ix2 (seqRow b p) a)) (Fin.ext ?_) (Fin.ext ?_)
  · show n.val * 256 + l.val = 256 * n.val + l.val
    omega
  · show 1024 + (h.val * 128 + x.val) = 1024 * 1 + 128 * h.val + x.val
    omega

/-- The values by blocks. -/
theorem v12_at (b h : Fin 8) (n : Fin 16) (l : Fin 256) (x : Fin 128) : res_main_v12 V0 (ix5 b h n l x) = Xin V0 (ix2 (seqRow b (row n l)) (col 2 h x)) := by
  pointwise [res_main_v12]
  rw [v1_at]
  refine congrArg₂ (fun p a => Xin V0 (ix2 (seqRow b p) a)) (Fin.ext ?_) (Fin.ext ?_)
  · show n.val * 256 + l.val = 256 * n.val + l.val
    omega
  · show 2048 + (h.val * 128 + x.val) = 1024 * 2 + 128 * h.val + x.val
    omega

/-- The slopes of the heads. -/
theorem v21_at (h : Fin 8) : res_main_v21 V0 (ix1 h) = ((slope h : ℝ) : EReal) := by
  pointwise [res_main_v21]
  have h1 : ∀ a : Fin 8, (BitVec.ofNat 32 a.val).toInt = (a.val : ℤ) := by decide
  rw [Moba.const_8, Moba.const_m8, Moba.const_2]
  have e : (FloatOps.sitofp FTy.f32 (BitVec.ofNat 32 h.val) : Ideal .f32) = ((h.val : ℝ) : EReal) := by
    show ((((BitVec.ofNat 32 h.val).toInt : ℤ) : ℝ) : EReal) = _
    rw [h1 h]
    norm_cast
  rw [e, show (1 : EReal) = ((1 : ℝ) : EReal) from rfl, ← EReal.coe_add, ← EReal.coe_mul, Moba.div_coe _ _ (by norm_num)]
  show ((Real.rpow 2 _ : ℝ) : EReal) = _
  unfold Cert.KernelIdeal.Value.slope
  congr 2
  ring

/-- The block of a position, as the reference's floor division computes it. -/
theorem div_word : ∀ p : Fin 4096, Scalar.select
      (IntOp.andi
        (IntOp.cmpi CmpIPredicate.ne
          (if BitVec.ofNat 32 p.val = 0 then 0 else if (BitVec.ofNat 32 p.val).msb = true then -1 else (1 : BitVec 32))
          (if (256#32 : BitVec 32) = 0 then 0 else if BitVec.msb 256#32 = true then -1 else (1 : BitVec 32)))
        (IntOp.cmpi CmpIPredicate.ne (IntOp.remsi ArithUnit.host (BitVec.ofNat 32 p.val) 256#32) 0#32))
      (IntOp.subi (IntOp.divsi ArithUnit.host (BitVec.ofNat 32 p.val) 256#32) 1#32)
      (IntOp.divsi ArithUnit.host (BitVec.ofNat 32 p.val) 256#32) =
    BitVec.ofNat 32 (p.val / 256) := by decide +kernel

/-- The block of a position. -/
theorem v27_at (p : Fin 4096) : res_main_v27 V0 (ix1 p) = BitVec.ofNat 32 (p.val / 256) := by
  pointwise [res_main_v27, res_main_v26, res_main_call0_v0, res_main_call0_v2]
  exact div_word p

/-- A position as a number. -/
theorem toInt_pos (p : Fin 4096) : (BitVec.ofNat 32 p.val).toInt = (p.val : ℤ) := by
  have h : ∀ p : Fin 4096, (BitVec.ofNat 32 p.val).toInt = (p.val : ℤ) := by decide +kernel
  exact h p

/-- A position as a float. -/
theorem sitofp_pos (p : Fin 4096) : (FloatOps.sitofp FTy.f32 (BitVec.ofNat 32 p.val) : Ideal .f32) = ((p.val : ℝ) : EReal) := by
  show ((((BitVec.ofNat 32 p.val).toInt : ℤ) : ℝ) : EReal) = _
  rw [toInt_pos p]
  norm_cast

/-- The positions. -/
theorem v40_at (p : Fin 4096) : res_main_v40 V0 (ix1 p) = ((p.val : ℝ) : EReal) := by
  pointwise [res_main_v40]
  exact sitofp_pos p

/-- The block of row `r` of block `i` is `i`. -/
theorem block_row (i : Fin 16) (r : Fin 256) : (row i r).val / 256 = i.val := by
  show (256 * i.val + r.val) / 256 = i.val
  have := r.isLt
  omega

/-- The position of row `l` of block `i`, from the block's number. -/
theorem pos_word : ∀ (i : Fin 16) (l : Fin 256), IntOp.addi (IntOp.muli (BitVec.ofNat 32 i.val) 256#32) (BitVec.ofNat 32 l.val) = BitVec.ofNat 32 (row i l).val := by
  intro i l
  have h : ∀ (i : Fin 16) (l : Fin 256), IntOp.addi (IntOp.muli (BitVec.ofNat 32 i.val) 256#32) (BitVec.ofNat 32 l.val) = BitVec.ofNat 32 (256 * i.val + l.val) := by decide +kernel
  exact h i l

/-- How far a query lies behind a row of its own block. -/
theorem v94_at (i : Fin 16) (r l : Fin 256) : res_main_v94 V0 (ix2 (row i r) l) = (((r.val : ℝ) - (l.val : ℝ) : ℝ) : EReal) := by
  pointwise [res_main_v94]
  rw [v40_at, v27_at, block_row, pos_word, sitofp_pos, ← EReal.coe_sub]
  refine congrArg _ ?_
  show ((256 * i.val + r.val : ℕ) : ℝ) - ((256 * i.val + l.val : ℕ) : ℝ) = _
  push_cast
  ring

/-- Comparing two block numbers. -/
theorem slt_block : ∀ n i : Fin 16, IntOp.cmpi CmpIPredicate.slt (BitVec.ofNat 32 n.val) (BitVec.ofNat 32 i.val) = BitVec.ofBool (decide (n.val < i.val)) := by
  decide +kernel

/-- A choice by a decided condition, with minus infinity where it fails. -/
theorem select_if (P : Prop) [Decidable P] (u v w : EReal) (hu : P → u = w) (hv : v = ⊥) :
    Scalar.select (BitVec.ofBool (decide P)) u v = if P then w else ⊥ := by
  by_cases hP : P
  · rw [if_pos hP, decide_eq_true hP]
    exact hu hP
  · rw [if_neg hP, decide_eq_false hP]
    exact hv

/-- A mean over a block, as a division and as a product. -/
theorem mean (f g : Fin 256 → EReal) (hf : ∀ l, f l = g l) :
    Ideal.div (∑ l, f l) (Ideal.ofBits .f32 0x43800000#32) = (∑ l, g l) * ((1 / 256 : ℝ) : EReal) := by
  have h0 : ((256 : ℝ) : EReal) ≠ 0 := by
    intro h
    exact absurd (EReal.coe_eq_zero.mp h) (by norm_num)
  rw [Moba.const_256, Ideal.div, if_neg h0, ← EReal.coe_inv, Finset.sum_congr rfl fun l _ => hf l]
  norm_num

/-- The gate of a block at a query. -/
theorem v34_at (b h : Fin 8) (i : Fin 16) (r : Fin 256) (n : Fin 16) : res_main_v34 V0 (ix4 b h (row i r) n) = gateX (Xin V0) b h i r n := by
  pointwise [res_main_v34]
  rw [v27_at, block_row, slt_block]
  refine select_if _ _ _ _ (fun _ => ?_) Moba.const_bot
  refine (Finset.sum_congr rfl fun x _ => mul_comm _ _).trans (Finset.sum_congr rfl fun x _ => ?_)
  exact congrArg₂ (· * ·) (mean _ _ fun l => v11_at V0 b h n l x) (v4_at V0 b h (row i r) x)

/-- The place of the `a`-th largest gate. -/
def pick (X : FVec Ideal S32768x3072 .bf16) (b h : Fin 8) (i : Fin 16) (r : Fin 256) (a : Fin 3) : Fin 16 :=
  sortedFrom (fun k k' => decide (gateX X b h i r k' < gateX X b h i r k)) (a.castLE (by decide))

/-- The positions of the greatest along an axis: where the stable sort takes its entries from. -/
theorem topK_words {s t : Shape} (d : ℕ) (hd : d < s.rank) {α : Type} (gt : α → α → BitVec 1) (x : s.Idx → α) (hs : s.Slices (fun _ => 0) t) :
    (Host.topK t d gt x hs).2 = extractStridedSlice t (fun _ => 0) (fun j : s.Idx =>
      BitVec.ofNat 32 (sortedFrom (fun k k' => gt (x (j.along ⟨d, hd⟩ k)) (x (j.along ⟨d, hd⟩ k')) == 1#1) (j ⟨d, hd⟩)).val) hs := by
  unfold Host.topK Host.sort2
  simp only [dif_pos hd]
  refine congrArg (fun Y => extractStridedSlice t (fun _ => 0) Y hs) ?_
  funext j
  unfold iotaInDim Shape.Idx.along
  rw [Function.update_self]

/-- The positions of the three greatest of sixteen. -/
theorem topK_at (gt : Ideal .f32 → Ideal .f32 → BitVec 1) (x : FVec Ideal S8x8x4096x16 .f32) (hs) (b h : Fin 8) (p : Fin 4096) (a : Fin 3) :
    (Host.topK S8x8x4096x3 3 gt x hs).2 (ix4 b h p a)
      = BitVec.ofNat 32 (sortedFrom (fun k k' : Fin 16 => gt (x (ix4 b h p k)) (x (ix4 b h p k')) == 1#1) (a.castLE (by decide))).val := by
  have al : ∀ k : Fin 16, Shape.Idx.along (s := S8x8x4096x16) (ix4 b h p (a.castLE (by decide))) (3 : Fin 4) k = ix4 b h p k := by
    intro k
    funext d
    refine Fin.ext ?_
    match d with
    | ⟨0, _⟩ => rfl
    | ⟨1, _⟩ => rfl
    | ⟨2, _⟩ => rfl
    | ⟨3, _⟩ => rfl
  have cut : ∀ Y : IVec S8x8x4096x16 32, extractStridedSlice S8x8x4096x3 (fun _ => 0) Y hs (ix4 b h p a) = Y (ix4 b h p (a.castLE (by decide))) := by
    intro Y
    refine congrArg Y ?_
    funext d
    refine Fin.ext ?_
    match d with
    | ⟨0, _⟩ => exact Nat.zero_add _
    | ⟨1, _⟩ => exact Nat.zero_add _
    | ⟨2, _⟩ => exact Nat.zero_add _
    | ⟨3, _⟩ => exact Nat.zero_add _
  rw [topK_words 3 (by decide), cut]
  refine congrArg (fun F : Fin 16 → Fin 16 → Bool => BitVec.ofNat 32 (sortedFrom F (a.castLE (by decide))).val)
    (?_ : (fun k k' : Fin 16 => gt (x (Shape.Idx.along (s := S8x8x4096x16) (ix4 b h p (a.castLE (by decide))) (3 : Fin 4) k)) (x (Shape.Idx.along (s := S8x8x4096x16) (ix4 b h p (a.castLE (by decide))) (3 : Fin 4) k')) == 1#1)
      = fun k k' => gt (x (ix4 b h p k)) (x (ix4 b h p k')) == 1#1)
  funext k k'
  rw [al, al]

/-- The numbers of the chosen blocks. -/
theorem indices_at (b h : Fin 8) (i : Fin 16) (r : Fin 256) (a : Fin 3) :
    res_main_indices V0 (ix4 b h (row i r) a) = BitVec.ofNat 32 (pick (Xin V0) b h i r a).val := by
  rw [res_main_indices, topK_at]
  have e : (fun k k' : Fin 16 => (FloatOps.cmpfTotal .gt (res_main_v34 V0 (ix4 b h (row i r) k)) (res_main_v34 V0 (ix4 b h (row i r) k')) == 1#1))
      = fun k k' => decide (gateX (Xin V0) b h i r k' < gateX (Xin V0) b h i r k) := by
    funext k k'
    rw [v34_at, v34_at]
    show (BitVec.ofBool (decide (_ < _)) == 1#1) = _
    rcases h : decide (gateX (Xin V0) b h i r k' < gateX (Xin V0) b h i r k) <;> rfl
  rw [e]
  rfl

/-- The gather at a point: the row of the block that the word names. -/
theorem gather_at (x : FVec Ideal S8x8x16x256x128 .f32) (idx : IVec S8x8x4096x3x1 32) (b h : Fin 8) (p : Fin 4096) (a : Fin 3) (l : Fin 256) (y : Fin 128) (n : Fin 16)
    (hn : idx (ix5 b h p a 0) = BitVec.ofNat 32 n.val) :
    Host.gather gather_S8x8x16x256x128_S8x8x4096x3x1_S8x8x4096x3x256x128_45_2_01_01_2_4_111256128 x idx (ix6 b h p a l y) = x (ix5 b h n l y) := by
  unfold Host.gather
  refine congrArg x ?_
  funext d
  refine Fin.ext ?_
  set G := gather_S8x8x16x256x128_S8x8x4096x3x1_S8x8x4096x3x256x128_45_2_01_01_2_4_111256128 with hG
  show G.start (ix6 b h p a l y) idx d + G.batchCoord (ix6 b h p a l y) d + G.offCoord (ix6 b h p a l y) d = _
  match d with
  | ⟨0, _⟩ =>
    show 0 + b.val + 0 = b.val
    omega
  | ⟨1, _⟩ =>
    show 0 + h.val + 0 = h.val
    omega
  | ⟨2, _⟩ =>
    have hsi : G.siIdx (ix6 b h p a l y) ⟨0, by decide⟩ = ix5 b h p a 0 := by
      funext d
      refine Fin.ext ?_
      match d with
      | ⟨0, _⟩ => rfl
      | ⟨1, _⟩ => rfl
      | ⟨2, _⟩ => rfl
      | ⟨3, _⟩ => rfl
      | ⟨4, _⟩ => rfl
    have hm : ∀ n : Fin 16, min (BitVec.ofNat 32 n.val).toInt.toNat 15 = n.val := by decide
    show min (idx (G.siIdx (ix6 b h p a l y) ⟨0, _⟩)).toInt.toNat 15 + 0 + 0 = n.val
    rw [hsi, hn]
    exact hm n
  | ⟨3, _⟩ =>
    show 0 + 0 + l.val = l.val
    omega
  | ⟨4, _⟩ =>
    show 0 + 0 + y.val = y.val
    omega

end Cert.ReferenceIdeal.Value
end
-- ==== Proof.MobaLogit.lean ====
/-
  The reference's attention, its logits at one query against the chosen blocks and the own one.
-/
module

public import proofs.«01_k».proof.Proof.MobaRef
public import proofs.«01_k».proof.Proof.Gen.ReferenceIdeal.Run
public import Idealize.ShloMosaic.Lib.Pipeline.ValueKit

@[expose] public section
set_option maxRecDepth 16384
noncomputable section
namespace Cert.ReferenceIdeal.Value
open Cert.ReferenceIdeal Cert.ReferenceIdeal.Gen Idealize.ShloMosaic Idealize.ShloMosaic.TcCoe Idealize.SL.Sem
open Idealize.ShloMosaic.StableHlo
open Cert.KernelIdeal.Value (row seqRow col gateX chosenX spec slope FiniteQK qR kR score pastW ownW)
set_option maxHeartbeats 4000000

variable (V0 : Valuation τ sig (Elt Ideal))

/-- A scaled product of a real query with a real key, less a real bias. -/
theorem logit (f g : Fin 128 → EReal) (q k : Fin 128 → ℝ) (hf : ∀ x, f x = ((q x : ℝ) : EReal)) (hg : ∀ x, g x = ((k x : ℝ) : EReal))
    (P Z : EReal) (p z : ℝ) (hP : P = ((p : ℝ) : EReal)) (hZ : Z = ((z : ℝ) : EReal)) :
    (∑ x, f x * g x) * Ideal.ofBits .f32 0x3DB504F3#32 - P * Z = (((∑ x, k x * q x) * Moba.scale - p * z : ℝ) : EReal) := by
  have e : (∑ x, f x * g x) = ((∑ x, k x * q x : ℝ) : EReal) := by
    rw [Moba.coe_sum]
    refine Finset.sum_congr rfl fun x _ => ?_
    rw [hf, hg, ← EReal.coe_mul, mul_comm]
  rw [e, hP, hZ, Moba.const_scale, ← EReal.coe_mul, ← EReal.coe_mul, ← EReal.coe_sub]

/-- The difference of two reals. -/
theorem diff_real (P Z : EReal) (p z : ℝ) (hP : P = ((p : ℝ) : EReal)) (hZ : Z = ((z : ℝ) : EReal)) : P - Z = ((p - z : ℝ) : EReal) := by
  rw [hP, hZ, ← EReal.coe_sub]

/-- A choice by an equivalent condition, with minus infinity where it fails. -/
theorem if_if (P Q : Prop) [Decidable P] [Decidable Q] (u v w : EReal) (h : P ↔ Q) (hu : Q → u = w) (hv : v = ⊥) :
    (if P then u else v) = if Q then w else ⊥ := by
  by_cases hP : P
  · rw [if_pos hP, if_pos (h.mp hP), hu (h.mp hP)]
  · rw [if_neg hP, if_neg (fun hq => hP (h.mpr hq)), hv]

/-- A row is seen when it does not lie behind the query. -/
theorem own_iff (r l : Fin 256) (z : EReal) (hz : z = (((r.val : ℝ) - (l.val : ℝ) : ℝ) : EReal)) : 0 ≤ z ↔ l.val ≤ r.val := by
  rw [hz, show (0 : EReal) = ((0 : ℝ) : EReal) from rfl, EReal.coe_le_coe_iff, sub_nonneg, Nat.cast_le]

/-- The start index of a gather: a chosen block's number, no negative one being left to wrap. -/
theorem start_at (b h : Fin 8) (i : Fin 16) (r : Fin 256) (a : Fin 3) :
    broadcastInDim S8x8x4096x3x1 ![0, 1, 2, 3] bcast_S8x8x4096x3_S8x8x4096x3x1_0_1_2_3 (select (cmpi .slt (res_main_indices V0) (broadcastInDim S8x8x4096x3 ![] bcast_S_S8x8x4096x3 (constantI S_ 32 0#32))) (addi (res_main_indices V0) (broadcastInDim S8x8x4096x3 ![] bcast_S_S8x8x4096x3 (constantI S_ 32 16#32))) (res_main_indices V0)) (ix5 b h (row i r) a 0)
      = BitVec.ofNat 32 (pick (Xin V0) b h i r a).val := by
  pointwise []
  rw [indices_at]
  have hw : ∀ n : Fin 16, Scalar.select (IntOp.cmpi CmpIPredicate.slt (BitVec.ofNat 32 n.val) 0#32) (IntOp.addi (BitVec.ofNat 32 n.val) 16#32) (BitVec.ofNat 32 n.val) = BitVec.ofNat 32 n.val := by decide +kernel
  exact hw _

/-- A query as a real. -/
theorem v4_real (hX : FiniteQK (Xin V0)) (b h : Fin 8) (i : Fin 16) (r : Fin 256) (x : Fin 128) :
    res_main_v4 V0 (ix4 b h (row i r) x) = ((qR (Xin V0) b h i r x : ℝ) : EReal) := by
  rw [v4_at]
  exact hX _ 0 h x (by decide)

/-- A key as a real. -/
theorem v11_real (hX : FiniteQK (Xin V0)) (b h : Fin 8) (n : Fin 16) (l : Fin 256) (x : Fin 128) :
    res_main_v11 V0 (ix5 b h n l x) = ((kR (Xin V0) b h (row n l) x : ℝ) : EReal) := by
  rw [v11_at]
  exact hX _ 1 h x (by decide)

/-- The logit at row `l` of the `a`-th chosen block. -/
theorem v107_past (hX : FiniteQK (Xin V0)) (b h : Fin 8) (i : Fin 16) (r : Fin 256) (a : Fin 3) (l : Fin 256) :
    res_main_v107 V0 (ix4 b h (row i r) ⟨a.val * 256 + l.val, by have := a.isLt; have := l.isLt; omega⟩)
      = if (pick (Xin V0) b h i r a).val < i.val then
          ((score h (qR (Xin V0) b h i) (kR (Xin V0) b h) r (pick (Xin V0) b h i r a) l + slope h * ((((pick (Xin V0) b h i r a).val : ℝ) - (i.val : ℝ)) * 256) - slope h * (r.val : ℝ) : ℝ) : EReal)
        else ⊥ := by
  pointwise [res_main_v107]
  have hlt : a.val * 256 + l.val < 768 := by have := a.isLt; have := l.isLt; omega
  rw [dif_pos hlt, indices_at, v27_at, block_row, slt_block, pos_word]
  set n := pick (Xin V0) b h i r a with hn
  refine select_if _ _ _ _ (fun _ => ?_) Moba.const_bot
  refine (logit _ _ _ _ (fun x => v4_real V0 hX b h i r x)
      (fun x => (gather_at _ _ b h (row i r) a l x n (start_at V0 b h i r a)).trans (v11_real V0 hX b h n l x)) _ _ _ _ (v21_at V0 h)
      (diff_real _ _ _ _ (v40_at V0 (row i r)) (sitofp_pos (row n l)))).trans ?_
  refine congrArg _ ?_
  unfold Cert.KernelIdeal.Value.score
  have e1 : ((row i r).val : ℝ) = 256 * (i.val : ℝ) + (r.val : ℝ) := by
    show ((256 * i.val + r.val : ℕ) : ℝ) = _
    push_cast; ring
  have e2 : ((row n l).val : ℝ) = 256 * (n.val : ℝ) + (l.val : ℝ) := by
    show ((256 * n.val + l.val : ℕ) : ℝ) = _
    push_cast; ring
  rw [e1, e2]
  ring

/-- The logit at row `l` of the own block. -/
theorem v107_own (hX : FiniteQK (Xin V0)) (b h : Fin 8) (i : Fin 16) (r : Fin 256) (l : Fin 256) :
    res_main_v107 V0 (ix4 b h (row i r) ⟨768 + l.val, by have := l.isLt; omega⟩)
      = if l.val ≤ r.val then ((score h (qR (Xin V0) b h i) (kR (Xin V0) b h) r i l - slope h * (r.val : ℝ) : ℝ) : EReal) else ⊥ := by
  pointwise [res_main_v107]
  have hi : (⟨(row i r).val / 256, by have := (row i r).isLt; omega⟩ : Fin 16) = i := Fin.ext (block_row i r)
  refine if_if _ _ _ _ _ (own_iff r l _ (v94_at V0 i r l)) (fun _ => ?_) Moba.const_bot
  refine (logit _ _ _ _ (fun x => v4_real V0 hX b h i r x)
      (fun x => (congrArg (fun n => res_main_v11 V0 (ix5 b h n l x)) hi).trans (v11_real V0 hX b h i l x)) _ _ _ _ (v21_at V0 h)
      (v94_at V0 i r l)).trans ?_
  refine congrArg _ ?_
  unfold Cert.KernelIdeal.Value.score
  ring

end Cert.ReferenceIdeal.Value
end
-- ==== Proof.MobaSoft.lean ====
/-
  The reference's attention, its weights: the softmax of the logits at one query.
-/
module

public import proofs.«01_k».proof.Proof.MobaLogit
public import proofs.«01_k».proof.Proof.Gen.ReferenceIdeal.Run
public import Idealize.ShloMosaic.Lib.Pipeline.ValueKit

@[expose] public section
set_option maxRecDepth 16384
noncomputable section
namespace Cert.ReferenceIdeal.Value
open Cert.ReferenceIdeal Cert.ReferenceIdeal.Gen Idealize.ShloMosaic Idealize.ShloMosaic.TcCoe Idealize.SL.Sem
open Idealize.ShloMosaic.StableHlo
open Cert.KernelIdeal.Value (row seqRow col gateX chosenX spec slope FiniteQK qR kR score pastW ownW)
set_option maxHeartbeats 4000000

variable (V0 : Valuation τ sig (Elt Ideal))

/-- The weight at row `l` of the `a`-th chosen block, before the softmax's factor. -/
def pW (X : FVec Ideal S32768x3072 .bf16) (b h : Fin 8) (i : Fin 16) (r : Fin 256) (a : Fin 3) (l : Fin 256) : ℝ :=
  if (pick X b h i r a).val < i.val then pastW h i (qR X b h i) (kR X b h) r (pick X b h i r a) l else 0

/-- The weight at row `l` of the own block, before the softmax's factor. -/
def oW (X : FVec Ideal S32768x3072 .bf16) (b h : Fin 8) (i : Fin 16) (r : Fin 256) (l : Fin 256) : ℝ := ownW h i (qR X b h i) (kR X b h) r l

/-- A column of the logits is a row of a chosen block or of the own one. -/
theorem col_cases (j : Fin 1024) : (∃ (a : Fin 3) (l : Fin 256), j = ⟨a.val * 256 + l.val, by have := a.isLt; have := l.isLt; omega⟩)
    ∨ ∃ l : Fin 256, j = ⟨768 + l.val, by have := l.isLt; omega⟩ := by
  by_cases hj : j.val < 768
  · left
    refine ⟨⟨j.val / 256, by omega⟩, ⟨j.val % 256, Nat.mod_lt _ (by decide)⟩, Fin.ext ?_⟩
    show j.val = j.val / 256 * 256 + j.val % 256
    omega
  · right
    refine ⟨⟨j.val - 768, by have := j.isLt; omega⟩, Fin.ext ?_⟩
    show j.val = 768 + (j.val - 768)
    omega

/-- The logits, as extended reals. -/
def lg (y : S8x8x4096x1024.Idx) : EReal := res_main_v107 V0 y

/-- No logit is plus infinity. -/
theorem lg_ne_top (hX : FiniteQK (Xin V0)) (b h : Fin 8) (p : Fin 4096) (j : Fin 1024) : lg V0 (ix4 b h p j) ≠ ⊤ := by
  obtain ⟨i, r, rfl⟩ : ∃ (i : Fin 16) (r : Fin 256), p = row i r :=
    ⟨⟨p.val / 256, by have := p.isLt; omega⟩, ⟨p.val % 256, Nat.mod_lt _ (by decide)⟩, Fin.ext (by
      show p.val = 256 * (p.val / 256) + p.val % 256
      omega)⟩
  rcases col_cases j with ⟨a, l, rfl⟩ | ⟨l, rfl⟩
  · rw [lg, v107_past V0 hX]
    split_ifs
    · exact EReal.coe_ne_top _
    · exact (fun h => absurd h (by simp))
  · rw [lg, v107_own V0 hX]
    split_ifs
    · exact EReal.coe_ne_top _
    · exact (fun h => absurd h (by simp))

/-- No logit is plus infinity, at any index. -/
theorem lg_ne_top' (hX : FiniteQK (Xin V0)) (y : S8x8x4096x1024.Idx) : lg V0 y ≠ ⊤ := by
  have e : y = ix4 (y 0) (y 1) (y 2) (y 3) := by
    funext d
    match d with
    | ⟨0, _⟩ => rfl
    | ⟨1, _⟩ => rfl
    | ⟨2, _⟩ => rfl
    | ⟨3, _⟩ => rfl
  rw [e]
  exact lg_ne_top V0 hX _ _ _ _

/-- The logit of a query against its own row is not minus infinity. -/
theorem lg_ne_bot (hX : FiniteQK (Xin V0)) (b h : Fin 8) (i : Fin 16) (r : Fin 256) :
    lg V0 (ix4 b h (row i r) ⟨768 + r.val, by have := r.isLt; omega⟩) ≠ ⊥ := by
  rw [lg, v107_own V0 hX, if_pos le_rfl]
  exact EReal.coe_ne_bot _

/-- A running maximum of entries none of which is plus infinity is not plus infinity. -/
theorem foldl_ne_top {ι : Type} (f : EReal → EReal → EReal) (hf : ∀ a b, f a b = max a b) (g : ι → EReal) (hg : ∀ n, g n ≠ ⊤) (L : List ι) :
    ∀ z : EReal, z ≠ ⊤ → L.foldl (fun r n => f r (g n)) z ≠ ⊤ := by
  induction L with
  | nil => exact fun z hz => hz
  | cons n L ih =>
    intro z hz
    rw [List.foldl_cons]
    refine ih _ ?_
    rw [hf]
    exact (max_lt (lt_top_iff_ne_top.mpr hz) (lt_top_iff_ne_top.mpr (hg n))).ne

/-- A running maximum lies above its start. -/
theorem le_foldl {ι : Type} (f : EReal → EReal → EReal) (hf : ∀ a b, f a b = max a b) (g : ι → EReal) (L : List ι) :
    ∀ z : EReal, z ≤ L.foldl (fun r n => f r (g n)) z := by
  induction L with
  | nil => exact fun z => le_rfl
  | cons n L ih =>
    intro z
    rw [List.foldl_cons]
    refine le_trans ?_ (ih _)
    rw [hf]
    exact le_max_left _ _

/-- A running maximum lies above each of its entries. -/
theorem entry_le_foldl {ι : Type} (f : EReal → EReal → EReal) (hf : ∀ a b, f a b = max a b) (g : ι → EReal) (L : List ι) (j : ι) (hj : j ∈ L) :
    ∀ z : EReal, g j ≤ L.foldl (fun r n => f r (g n)) z := by
  induction L with
  | nil => exact absurd hj (List.not_mem_nil)
  | cons n L ih =>
    intro z
    rw [List.foldl_cons]
    rcases List.mem_cons.mp hj with rfl | h
    · refine le_trans ?_ (le_foldl f hf g L _)
      rw [hf]
      exact le_max_right _ _
    · exact ih h _

/-- The maximum along an axis is real where no entry is plus infinity and some entry is not minus infinity. -/
theorem reduce_real {s t u : Shape} {axes : List (Fin s.rank)} (h : s.ReducesTo axes t) (hu : 0 < u.numel) (f : EReal → EReal → EReal)
    (hf : ∀ a b, f a b = max a b) (x : s.Idx → EReal) (init : u.Idx → EReal) (hi : ∀ i, init i = ⊥) (hx : ∀ y, x y ≠ ⊤)
    (j : t.Idx) (y : s.Idx) (hy : h.drop y = j) (hb : x y ≠ ⊥) : ∃ M : ℝ, Host.reduce f x init h hu j = (M : EReal) := by
  have h1 : Host.reduce f x init h hu j ≠ ⊤ := by
    unfold Host.reduce
    exact foldl_ne_top f hf (fun n => x (s.rowMajor.symm n)) (fun n => hx _) _ _ (by rw [hi]; exact (fun h => absurd h (by simp)))
  have h2 : x y ≤ Host.reduce f x init h hu j := by
    unfold Host.reduce
    have e := entry_le_foldl f hf (fun n => x (s.rowMajor.symm n)) ((List.finRange s.numel).filter fun n => h.drop (s.rowMajor.symm n) = j) (s.rowMajor y)
      (by
        refine List.mem_filter.mpr ⟨List.mem_finRange _, ?_⟩
        rw [Equiv.symm_apply_apply]
        exact decide_eq_true hy) (init (Shape.Idx.first hu))
    simp only [Equiv.symm_apply_apply] at e
    exact e
  have h3 : Host.reduce f x init h hu j ≠ ⊥ := fun h' => hb (le_bot_iff.mp (h' ▸ h2))
  exact ⟨_, (EReal.coe_toReal h1 h3).symm⟩

/-- A maximum with minus infinity. -/
theorem maximumf_bot {s : Shape} (x y : FVec Ideal s .f32) (j : s.Idx) (z : EReal) (hx : x j = (⊥ : EReal)) (hy : y j = z) : maximumf x y j = z := by
  show max (x j : EReal) (y j : EReal) = z
  rw [hx, hy]
  exact max_eq_right bot_le

/-- The largest logit of every query. -/
def maxLogit : FVec Ideal S8x8x4096 .f32 :=
  maximumf (broadcastInDim S8x8x4096 ![] bcast_S_S8x8x4096 (constant S_ .f32 0xFF800000#32))
    (Host.reduce FloatOps.maximumf (res_main_v107 V0) (constant S_ .f32 0xFF800000#32) reducesTo_S8x8x4096x1024_S8x8x4096_d3 h_S_)

/-- The column of the logits of a query against its own row lies over the query. -/
theorem own_drop (b h : Fin 8) (p : Fin 4096) (j : Fin 1024) : reducesTo_S8x8x4096x1024_S8x8x4096_d3.drop (ix4 b h p j) = ix3 b h p := by
  funext d
  match d with
  | ⟨0, _⟩ => rfl
  | ⟨1, _⟩ => rfl
  | ⟨2, _⟩ => rfl

/-- The largest logit of a query is a real number. -/
theorem max_real (hX : FiniteQK (Xin V0)) (b h : Fin 8) (i : Fin 16) (r : Fin 256) :
    ∃ M : ℝ, maxLogit V0 (ix3 b h (row i r)) = (M : EReal) := by
  obtain ⟨M, hM⟩ := reduce_real reducesTo_S8x8x4096x1024_S8x8x4096_d3 h_S_ (FloatOps.maximumf (F := Ideal) (φ := .f32)) (fun a b => rfl) (lg V0) (constant (F := Ideal) S_ .f32 0xFF800000#32)
    (fun i => Moba.const_bot) (lg_ne_top' V0 hX) (ix3 b h (row i r)) _ (own_drop b h (row i r) _) (lg_ne_bot V0 hX b h i r)
  refine ⟨M, ?_⟩
  unfold maxLogit
  exact maximumf_bot _ _ _ _ Moba.const_bot hM

/-- The exponentials are of the logits less the largest one. -/
theorem v114_eq : res_main_v114 V0 = Host.exp (subf (res_main_v107 V0) (broadcastInDim S8x8x4096x1024 ![0, 1, 2, 3] bcast_S8x8x4096x1_S8x8x4096x1024_0_1_2_3
    (broadcastInDim S8x8x4096x1 ![0, 1, 2] bcast_S8x8x4096_S8x8x4096x1_0_1_2 (maxLogit V0)))) := by
  rw [res_main_v114, maxLogit]

/-- The exponential of a real logit, or of minus infinity, less the largest logit. -/
theorem exp_less (P : Prop) [Decidable P] (z : EReal) (s B M W : ℝ) (hz : z = if P then ((s - B : ℝ) : EReal) else ⊥) (hW : W = if P then Real.exp s else 0)
    (m : EReal) (hm : m = (M : EReal)) : Ideal.exp (z - m) = ((Real.exp (-(B + M)) * W : ℝ) : EReal) := by
  rw [hz, hm, hW]
  by_cases hP : P
  · rw [if_pos hP, if_pos hP, ← EReal.coe_sub, Ideal.exp_coe, ← Real.exp_add]
    refine congrArg _ (congrArg _ ?_)
    ring
  · rw [if_neg hP, if_neg hP, sub_eq_add_neg, EReal.bot_add, Ideal.exp_bot, mul_zero]
    rfl

/-- THE EXPONENTIALS of a query: a common positive factor times the weights. -/
theorem v114_at (hX : FiniteQK (Xin V0)) (b h : Fin 8) (i : Fin 16) (r : Fin 256) :
    ∃ c : ℝ, 0 < c
      ∧ (∀ (a : Fin 3) (l : Fin 256), res_main_v114 V0 (ix4 b h (row i r) ⟨a.val * 256 + l.val, by have := a.isLt; have := l.isLt; omega⟩) = ((c * pW (Xin V0) b h i r a l : ℝ) : EReal))
      ∧ (∀ l : Fin 256, res_main_v114 V0 (ix4 b h (row i r) ⟨768 + l.val, by have := l.isLt; omega⟩) = ((c * oW (Xin V0) b h i r l : ℝ) : EReal)) := by
  obtain ⟨M, hM⟩ := max_real V0 hX b h i r
  refine ⟨Real.exp (-(slope h * (r.val : ℝ) + M)), Real.exp_pos _, fun a l => ?_, fun l => ?_⟩
  · rw [v114_eq]
    pointwise []
    exact exp_less _ _ _ _ M _ (v107_past V0 hX b h i r a l) rfl _ hM
  · rw [v114_eq]
    pointwise []
    exact exp_less _ _ _ _ M _ (v107_own V0 hX b h i r l) rfl _ hM

/-- A sum over the columns of the logits: over the rows of the chosen blocks, and of the own one. -/
theorem sum_cols (f : Fin 1024 → EReal) : (∑ j, f j) = (∑ a : Fin 3, ∑ l : Fin 256, f ⟨a.val * 256 + l.val, by have := a.isLt; have := l.isLt; omega⟩)
    + ∑ l : Fin 256, f ⟨768 + l.val, by have := l.isLt; omega⟩ := by
  rw [Fin.sum_univ_add (a := 768) (b := 256) f]
  refine congrArg₂ (· + ·) ?_ rfl
  refine (Fintype.sum_equiv finProdFinEquiv (fun y : Fin 3 × Fin 256 => f ⟨y.1.val * 256 + y.2.val, by have := y.1.isLt; have := y.2.isLt; omega⟩) (fun x : Fin 768 => f (Fin.castAdd 256 x)) fun y => ?_).symm.trans (Fintype.sum_prod_type _)
  refine congrArg f (Fin.ext ?_)
  show y.1.val * 256 + y.2.val = y.2.val + 256 * y.1.val
  ring

/-- The sum of the weights of a query. -/
def total (X : FVec Ideal S32768x3072 .bf16) (b h : Fin 8) (i : Fin 16) (r : Fin 256) : ℝ :=
  (∑ l, ownW h i (qR X b h i) (kR X b h) r l) + ∑ n, if chosenX X b h i r n then ∑ l, pastW h i (qR X b h i) (kR X b h) r n l else 0

/-- A sum over the three largest gates, those of no earlier block dropped, is a sum over the chosen blocks. -/
theorem sum_pick {M : Type} [AddCommMonoid M] (X : FVec Ideal S32768x3072 .bf16) (b h : Fin 8) (i : Fin 16) (r : Fin 256) (f : Fin 16 → M) :
    (∑ a : Fin 3, if (pick X b h i r a).val < i.val then f (pick X b h i r a) else 0) = ∑ n, if chosenX X b h i r n then f n else 0 := by
  refine (Moba.sum_top (gateX X b h i r) (fun n => if n.val < i.val then f n else 0)).trans ?_
  refine Finset.sum_congr rfl fun n _ => ?_
  unfold Cert.KernelIdeal.Value.chosenX
  by_cases h1 : n.val < i.val <;> by_cases h2 : Moba.rank (gateX X b h i r) n < 3 <;> simp [h1, h2]

/-- The weights add up to the total. -/
theorem total_eq (X : FVec Ideal S32768x3072 .bf16) (b h : Fin 8) (i : Fin 16) (r : Fin 256) :
    (∑ a : Fin 3, ∑ l, pW X b h i r a l) + ∑ l, oW X b h i r l = total X b h i r := by
  unfold total
  rw [add_comm]
  refine congrArg₂ (· + ·) rfl ?_
  rw [← sum_pick X b h i r (fun n => ∑ l, pastW h i (qR X b h i) (kR X b h) r n l)]
  refine Finset.sum_congr rfl fun a _ => ?_
  unfold pW
  by_cases h1 : (pick X b h i r a).val < i.val
  · rw [if_pos h1]
    exact Finset.sum_congr rfl fun l _ => if_pos h1
  · rw [if_neg h1]
    exact Finset.sum_eq_zero fun l _ => if_neg h1

/-- The total is positive. -/
theorem total_pos (X : FVec Ideal S32768x3072 .bf16) (b h : Fin 8) (i : Fin 16) (r : Fin 256) : 0 < total X b h i r := by
  unfold total
  refine add_pos_of_pos_of_nonneg ?_ ?_
  · refine Finset.sum_pos' (fun l _ => ?_) ⟨r, Finset.mem_univ _, ?_⟩
    · unfold Cert.KernelIdeal.Value.ownW
      split_ifs
      · exact (Real.exp_pos _).le
      · exact le_rfl
    · unfold Cert.KernelIdeal.Value.ownW
      rw [if_pos le_rfl]
      exact Real.exp_pos _
  · refine Finset.sum_nonneg fun n _ => ?_
    split_ifs
    · exact Finset.sum_nonneg fun l _ => (Real.exp_pos _).le
    · exact le_rfl

/-- A quotient by a common factor. -/
theorem div_common (z U : EReal) (c w T : ℝ) (hc : 0 < c) (hT : 0 < T) (hz : z = ((c * w : ℝ) : EReal)) (hU : U = ((c * T : ℝ) : EReal)) :
    Ideal.div z U = ((1 / T * w : ℝ) : EReal) := by
  rw [hz, hU, Moba.div_coe _ _ (mul_pos hc hT).ne']
  refine congrArg _ ?_
  field_simp

/-- The exponentials, as extended reals. -/
def ex (y : S8x8x4096x1024.Idx) : EReal := res_main_v114 V0 y

/-- THE WEIGHTS of a query after the softmax. -/
theorem v118_at (hX : FiniteQK (Xin V0)) (b h : Fin 8) (i : Fin 16) (r : Fin 256) :
    (∀ (a : Fin 3) (l : Fin 256), res_main_v118 V0 (ix4 b h (row i r) ⟨a.val * 256 + l.val, by have := a.isLt; have := l.isLt; omega⟩) = ((1 / total (Xin V0) b h i r * pW (Xin V0) b h i r a l : ℝ) : EReal))
      ∧ (∀ l : Fin 256, res_main_v118 V0 (ix4 b h (row i r) ⟨768 + l.val, by have := l.isLt; omega⟩) = ((1 / total (Xin V0) b h i r * oW (Xin V0) b h i r l : ℝ) : EReal)) := by
  obtain ⟨c, hc, hp, ho⟩ := v114_at V0 hX b h i r
  have hU : (∑ j : Fin 1024, ex V0 (ix4 b h (row i r) j)) = ((c * total (Xin V0) b h i r : ℝ) : EReal) := by
    refine (sum_cols _).trans ?_
    rw [← total_eq, mul_add, EReal.coe_add, Finset.mul_sum, Finset.mul_sum, Moba.coe_sum, Moba.coe_sum]
    refine congrArg₂ (· + ·) (Finset.sum_congr rfl fun a _ => ?_) (Finset.sum_congr rfl fun l _ => ho l)
    rw [Finset.mul_sum, Moba.coe_sum]
    exact Finset.sum_congr rfl fun l _ => hp a l
  refine ⟨fun a l => ?_, fun l => ?_⟩
  · pointwise [res_main_v118]
    exact div_common _ _ c _ _ hc (total_pos _ b h i r) (hp a l) hU
  · pointwise [res_main_v118]
    exact div_common _ _ c _ _ hc (total_pos _ b h i r) (ho l) hU

end Cert.ReferenceIdeal.Value
end
-- ==== Proof.MobaOut.lean ====
/-
  The reference's attention, its result at every entry.
-/
module

public import proofs.«01_k».proof.Proof.MobaSoft
public import proofs.«01_k».proof.Proof.Gen.ReferenceIdeal.Run
public import Idealize.ShloMosaic.Lib.Pipeline.ValueKit

@[expose] public section
set_option maxRecDepth 16384
noncomputable section
namespace Cert.ReferenceIdeal.Value
open Cert.ReferenceIdeal Cert.ReferenceIdeal.Gen Idealize.ShloMosaic Idealize.ShloMosaic.TcCoe Idealize.SL.Sem
open Idealize.ShloMosaic.StableHlo
open Cert.KernelIdeal.Value (row seqRow col gateX chosenX spec specArr slope FiniteQK qR kR score pastW ownW)
set_option maxHeartbeats 400000

variable (V0 : Valuation τ sig (Elt Ideal))

/-- The attention by batch, head, position and coordinate: the chosen blocks' part plus the own block's. -/
def sumArr : FVec Ideal S8x8x4096x128 .f32 :=
  addf (Host.dotGeneral (φ₁ := .f32) (φ₂ := .f32) dot_S8x8x4096x3x256_S8x8x4096x3x256x128_S8x8x4096x128_43_43_n_5_012_012 none (shapeCast _ (extractStridedSlice S8x8x4096x768 ![0, 0, 0, 0] (res_main_v118 V0) slices_S8x8x4096x1024_S8x8x4096x768_0_0_0_0) shapeCasts_S8x8x4096x768_S8x8x4096x3x256) (Host.gather gather_S8x8x16x256x128_S8x8x4096x3x1_S8x8x4096x3x256x128_45_2_01_01_2_4_111256128 (res_main_v12 V0) (broadcastInDim S8x8x4096x3x1 ![0, 1, 2, 3] bcast_S8x8x4096x3_S8x8x4096x3x1_0_1_2_3 (select (cmpi .slt (res_main_indices V0) (broadcastInDim S8x8x4096x3 ![] bcast_S_S8x8x4096x3 (constantI S_ 32 0#32))) (addi (res_main_indices V0) (broadcastInDim S8x8x4096x3 ![] bcast_S_S8x8x4096x3 (constantI S_ 32 16#32))) (res_main_indices V0))))) (shapeCast _ (Host.dotGeneral (φ₁ := .f32) (φ₂ := .f32) dot_S8x8x16x256x256_S8x8x16x256x128_S8x8x16x256x128_4_3_3_4_012_012 none (shapeCast _ (extractStridedSlice S8x8x4096x256 ![0, 0, 0, 768] (res_main_v118 V0) slices_S8x8x4096x1024_S8x8x4096x256_0_0_0_768) shapeCasts_S8x8x4096x256_S8x8x16x256x256) (res_main_v12 V0)) shapeCasts_S8x8x16x256x128_S8x8x4096x128)

/-- The chosen blocks' part. -/
theorem past_at (w : FVec Ideal S8x8x4096x1024 .f32) (g : FVec Ideal S8x8x4096x3x256x128 .f32) (b h : Fin 8) (p : Fin 4096) (d : Fin 128)
    (F : Fin 3 → Fin 256 → EReal) (hF : ∀ (a : Fin 3) (l : Fin 256), (w (ix4 b h p ⟨a.val * 256 + l.val, by have := a.isLt; have := l.isLt; omega⟩) : EReal) * g (ix6 b h p a l d) = F a l) :
    Host.dotGeneral (φ₁ := .f32) (φ₂ := .f32) dot_S8x8x4096x3x256_S8x8x4096x3x256x128_S8x8x4096x128_43_43_n_5_012_012 none (shapeCast _ (extractStridedSlice S8x8x4096x768 ![0, 0, 0, 0] w slices_S8x8x4096x1024_S8x8x4096x768_0_0_0_0) shapeCasts_S8x8x4096x768_S8x8x4096x3x256) g (ix4 b h p d) = ∑ a, ∑ l, F a l := by
  pointwise []
  rw [Finset.sum_comm]
  exact Finset.sum_congr rfl fun a _ => Finset.sum_congr rfl fun l _ => hF a l

/-- The own block's part. -/
theorem own_at (w : FVec Ideal S8x8x4096x1024 .f32) (v : FVec Ideal S8x8x16x256x128 .f32) (b h : Fin 8) (i : Fin 16) (r : Fin 256) (d : Fin 128)
    (F : Fin 256 → EReal) (hF : ∀ l : Fin 256, (w (ix4 b h (row i r) ⟨768 + l.val, by have := l.isLt; omega⟩) : EReal) * v (ix5 b h i l d) = F l) :
    shapeCast S8x8x4096x128 (Host.dotGeneral (φ₁ := .f32) (φ₂ := .f32) dot_S8x8x16x256x256_S8x8x16x256x128_S8x8x16x256x128_4_3_3_4_012_012 none (shapeCast _ (extractStridedSlice S8x8x4096x256 ![0, 0, 0, 768] w slices_S8x8x4096x1024_S8x8x4096x256_0_0_0_768) shapeCasts_S8x8x4096x256_S8x8x16x256x256) v) shapeCasts_S8x8x16x256x128_S8x8x4096x128 (ix4 b h (row i r) d) = ∑ l, F l := by
  pointwise []
  have hi : (⟨(row i r).val / 256, by have := (row i r).isLt; omega⟩ : Fin 16) = i := Fin.ext (block_row i r)
  refine Finset.sum_congr rfl fun l _ => ?_
  refine Eq.trans ?_ (hF l)
  exact congrArg (fun n => (w (ix4 b h (row i r) ⟨768 + l.val, by have := l.isLt; omega⟩) : EReal) * v (ix5 b h n l d)) hi

/-- The result's layout: row by batch and position, column by head and coordinate. -/
theorem out_at (x : FVec Ideal S8x8x4096x128 .f32) (a : Fin 32768) (c : Fin 1024) (z : EReal)
    (hz : x (ix4 ⟨a.val / 4096, by have := a.isLt; omega⟩ ⟨c.val / 128, by have := c.isLt; omega⟩ ⟨a.val % 4096, Nat.mod_lt _ (by decide)⟩ ⟨c.val % 128, Nat.mod_lt _ (by decide)⟩) = z) :
    truncf .bf16 (shapeCast _ (transpose S8x4096x8x128 [0, 2, 1, 3] x transposes_S8x8x4096x128_S8x4096x8x128_0_2_1_3) shapeCasts_S8x4096x8x128_S32768x1024) bitsLt_bf16_f32 (ix2 a c) = z := by
  pointwise []
  exact hz

/-- A sum of two arrays at an index. -/
theorem addf_eq {s : Shape} (x y : FVec Ideal s .f32) (j : s.Idx) (u v : EReal) (hx : x j = u) (hy : y j = v) : addf x y j = u + v := by
  show (x j : EReal) + y j = u + v
  rw [hx, hy]

/-- A real factor that is not negative distributes over a sum. -/
theorem coe_mul_add (t : ℝ) (ht : 0 ≤ t) (A B : EReal) : (t : EReal) * (A + B) = (t : EReal) * A + (t : EReal) * B := by
  have e := Moba.mul_sum t ht Finset.univ ![A, B]
  rw [Fin.sum_univ_two, Fin.sum_univ_two] at e
  exact e

/-- The attention's entry from the normalised weights over the chosen blocks and the own one. -/
theorem spec_eq (X : FVec Ideal S32768x3072 .bf16) (b h : Fin 8) (i : Fin 16) (r : Fin 256) (d : Fin 128) :
    (∑ a, ∑ l, ((1 / total X b h i r * pW X b h i r a l : ℝ) : EReal) * X (ix2 (seqRow b (row (pick X b h i r a) l)) (col 2 h d)))
      + (∑ l, ((1 / total X b h i r * oW X b h i r l : ℝ) : EReal) * X (ix2 (seqRow b (row i l)) (col 2 h d))) = spec X b h i r d := by
  have ht : 0 ≤ 1 / total X b h i r := by
    have := total_pos X b h i r
    positivity
  unfold Cert.KernelIdeal.Value.spec Moba.att
  refine Eq.trans ?_ (coe_mul_add (1 / total X b h i r) ht _ _).symm
  rw [add_comm]
  refine congrArg₂ (· + ·) ?_ ?_
  · rw [Moba.mul_sum _ ht]
    refine Finset.sum_congr rfl fun l _ => ?_
    rw [EReal.coe_mul, mul_assoc]
    rfl
  · rw [← sum_pick X b h i r (fun n => ∑ l, ((pastW h i (qR X b h i) (kR X b h) r n l : ℝ) : EReal) * X (ix2 (seqRow b (row n l)) (col 2 h d))), Moba.mul_sum _ ht]
    refine Finset.sum_congr rfl fun a _ => ?_
    rw [Finset.sum_congr rfl fun l _ => (congrArg (· * _) (EReal.coe_mul _ _)).trans (mul_assoc _ _ _), ← Moba.mul_sum _ ht]
    refine congrArg _ ?_
    unfold pW
    by_cases h1 : (pick X b h i r a).val < i.val
    · rw [if_pos h1]
      exact Finset.sum_congr rfl fun l _ => by rw [if_pos h1]
    · rw [if_neg h1]
      refine Finset.sum_eq_zero fun l _ => ?_
      rw [if_neg h1, EReal.coe_zero, zero_mul]

/-- ONE ENTRY of the reference's attention. -/
theorem sumArr_at (hX : FiniteQK (Xin V0)) (b h : Fin 8) (i : Fin 16) (r : Fin 256) (d : Fin 128) :
    sumArr V0 (ix4 b h (row i r) d) = spec (Xin V0) b h i r d := by
  rw [← spec_eq]
  unfold sumArr
  refine addf_eq _ _ _ _ _ (past_at _ _ b h (row i r) d _ fun a l => ?_) (own_at _ _ b h i r d _ fun l => ?_)
  · exact congrArg₂ (fun x y : EReal => x * y) ((v118_at V0 hX b h i r).1 a l)
      ((gather_at _ _ b h (row i r) a l d _ (start_at V0 b h i r a)).trans (v12_at V0 b h _ l d))
  · exact congrArg₂ (fun x y : EReal => x * y) ((v118_at V0 hX b h i r).2 l) (v12_at V0 b h i l d)

/-- THE REFERENCE'S RESULT: at every entry the attention. -/
theorem ref_final (hX : FiniteQK (Xin V0)) :
    truncf .bf16 (shapeCast _ (transpose S8x4096x8x128 [0, 2, 1, 3] (sumArr V0) transposes_S8x8x4096x128_S8x4096x8x128_0_2_1_3) shapeCasts_S8x4096x8x128_S32768x1024) bitsLt_bf16_f32 = specArr (Xin V0) := by
  funext y
  obtain ⟨a, c, rfl⟩ : ∃ (a : Fin 32768) (c : Fin 1024), y = ix2 a c := ⟨y 0, y 1, by
    funext d
    match d with
    | ⟨0, _⟩ => rfl
    | ⟨1, _⟩ => rfl⟩
  refine out_at _ a c _ ?_
  have hp : (⟨a.val % 4096, Nat.mod_lt _ (by decide)⟩ : Fin 4096) = row ⟨a.val / 256 % 16, Nat.mod_lt _ (by decide)⟩ ⟨a.val % 256, Nat.mod_lt _ (by decide)⟩ := by
    refine Fin.ext ?_
    show a.val % 4096 = 256 * (a.val / 256 % 16) + a.val % 256
    omega
  rw [hp]
  exact sumArr_at V0 hX _ _ _ _ _

end Cert.ReferenceIdeal.Value
end
-- ==== Proof.MobaPre.lean ====
/-
  The precondition of the attention, opened: the queries and the keys are real numbers.
-/
module

public import proofs.«01_k».proof.Proof.MobaFinal
public import proofs.«01_k».proof.Pre_finite_qk
public import Idealize.ShloMosaic.Lib.Pipeline.ValueKit

@[expose] public section
set_option maxRecDepth 16384
noncomputable section
namespace Cert.Pre_finite_qk
open Idealize.ShloMosaic
open Cert.KernelIdeal.Value (col FiniteQK)

/-- The side conditions of the precondition's operations. -/
theorem facts : Facts where
  slices_S32768x3072_S32768x2048_0_0 := by decide
  bitsLt_bf16_f32 := by decide
  bcast_S_S32768x2048 := by decide

/-- A number whose magnitude is below plus infinity is real. -/
theorem real_of_abs (x : EReal) (h : BitVec.ofBool (decide (FloatOps.absf (F := Ideal) (φ := .f32) x < Ideal.ofBits FTy.f32 0x7F800000#32)) = 1#1) :
    x = ((x.toReal : ℝ) : EReal) := by
  rw [Moba.const_inf] at h
  have hlt : FloatOps.absf (F := Ideal) (φ := .f32) x < (⊤ : EReal) := by
    by_contra hn
    rw [decide_eq_false hn] at h
    exact absurd h (by decide)
  refine (EReal.coe_toReal ?_ ?_).symm
  · rintro rfl
    exact absurd hlt (by show ¬ (max (⊤ : EReal) (-⊤) < ⊤); simp)
  · rintro rfl
    exact absurd hlt (by show ¬ (max (⊥ : EReal) (-⊥) < ⊤); simp)

/-- Where the precondition holds, the queries and the keys are real numbers. -/
theorem finite (X : FVec Ideal S32768x3072 .bf16) (hX : @fn facts Ideal _ X = fun _ => 1#1) : FiniteQK X := by
  intro a s h x hs
  have hc : 1024 * s.val + 128 * h.val + x.val < 2048 := by have := h.isLt; have := x.isLt; omega
  have e := congrFun hX (ix2 a (⟨1024 * s.val + 128 * h.val + x.val, hc⟩ : Fin 2048))
  have e' : @fn facts Ideal _ X (ix2 a (⟨1024 * s.val + 128 * h.val + x.val, hc⟩ : Fin 2048))
      = BitVec.ofBool (decide (FloatOps.absf (F := Ideal) (φ := .f32) (X (ix2 a (col s h x))) < Ideal.ofBits FTy.f32 0x7F800000#32)) := by
    pointwise [fn]
    rfl
  exact real_of_abs _ (e'.symm.trans e)

end Cert.Pre_finite_qk
end
-- ==== Proof.MobaValue.lean ====
/-
  The attention's two results agree: the kernel's and the reference's are the same array.
-/
module

public import proofs.«01_k».proof.Proof.MobaOut
public import proofs.«01_k».proof.Proof.MobaPre

@[expose] public section
set_option maxRecDepth 16384
noncomputable section
namespace Cert.ReferenceIdeal.Value
open Cert.ReferenceIdeal Cert.ReferenceIdeal.Gen Idealize.ShloMosaic Idealize.ShloMosaic.TcCoe Idealize.SL.Sem
open Cert.KernelIdeal.Value (specArr FiniteQK)

/-- The reference's result, its parts named, is the attention of an input equal to its own. -/
theorem ref_at (V0 : Valuation τ sig (Elt Ideal)) (X : FVec Ideal S32768x3072 .bf16) (h : Xin V0 = X) (hX : FiniteQK X) :
    truncf .bf16 (shapeCast _ (transpose S8x4096x8x128 [0, 2, 1, 3] (sumArr V0) transposes_S8x8x4096x128_S8x4096x8x128_0_2_1_3) shapeCasts_S8x4096x8x128_S32768x1024) bitsLt_bf16_f32 = specArr X := by
  subst h
  exact ref_final V0 hX

end Cert.ReferenceIdeal.Value
end
-- ==== Proof.lean ====
/-
  Each of the programs runs and leaves its arguments as they were, and each kernel call's results are, over the
  extended reals, the results of the mathematics stated beside it.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.OutMlp
public import proofs.«01_k».proof.Proof.Gen.OutMlpIdeal
public import proofs.«01_k».proof.Proof.Gen.OutMlpReferenceIdeal
public import proofs.«01_k».proof.Proof.Gen.MidMlp
public import proofs.«01_k».proof.Proof.Gen.MidMlpIdeal
public import proofs.«01_k».proof.Proof.Gen.MidMlpReferenceIdeal
public import proofs.«01_k».proof.Proof.Gen.QkvProj
public import proofs.«01_k».proof.Proof.Gen.QkvProjIdeal
public import proofs.«01_k».proof.Proof.Gen.QkvProjReferenceIdeal
public import proofs.«01_k».proof.Proof.Gen.GdnProj
public import proofs.«01_k».proof.Proof.Gen.GdnProjIdeal
public import proofs.«01_k».proof.Proof.Gen.GdnProjReferenceIdeal
public import proofs.«01_k».proof.Proof.Gen.Kernel.Frame
public import proofs.«01_k».proof.Proof.Gen.KernelIdeal.Frame
public import proofs.«01_k».proof.Proof.Gen.OutMlp.Frame
public import proofs.«01_k».proof.Proof.Gen.OutMlpIdeal.Frame
public import proofs.«01_k».proof.Proof.Gen.MidMlp.Frame
public import proofs.«01_k».proof.Proof.Gen.MidMlpIdeal.Frame
public import proofs.«01_k».proof.Proof.Gen.QkvProj.Frame
public import proofs.«01_k».proof.Proof.Gen.QkvProjIdeal.Frame
public import proofs.«01_k».proof.Proof.Gen.GdnProj.Frame
public import proofs.«01_k».proof.Proof.Gen.GdnProjIdeal.Frame
public import proofs.«01_k».proof.Proof.Gen.KernelIdeal.Value
public import proofs.«01_k».proof.Proof.Gen.OutMlpIdeal.Value
public import proofs.«01_k».proof.Proof.Gen.MidMlpIdeal.Value
public import proofs.«01_k».proof.Proof.Gen.QkvProjIdeal.Value
public import proofs.«01_k».proof.Proof.Gen.GdnProjIdeal.Value
public import proofs.«01_k».proof.Proof.Gen.ReferenceIdeal.Run
public import proofs.«01_k».proof.Proof.Gen.OutMlpReferenceIdeal.Run
public import proofs.«01_k».proof.Proof.Gen.MidMlpReferenceIdeal.Run
public import proofs.«01_k».proof.Proof.Gen.QkvProjReferenceIdeal.Run
public import proofs.«01_k».proof.Proof.Gen.GdnProjReferenceIdeal.Run
public import proofs.«01_k».proof.Proof.OutValue
public import proofs.«01_k».proof.Proof.MidValue
public import proofs.«01_k».proof.Proof.QkvValue
public import proofs.«01_k».proof.Proof.GdnValue
public import proofs.«01_k».proof.Pre_finite_qk
public import proofs.«01_k».proof.Proof.MobaValue
public import Idealize.ShloMosaic.Adequacy
public import Idealize.ShloMosaic.Init
public import Idealize.ShloMosaic.Lib.Claim

@[expose] public section

set_option maxRecDepth 16384

noncomputable section

namespace Cert.Proof

open Idealize.ShloMosaic Idealize.ShloMosaic.TcCoe Idealize.SL.Sem

/-- The reference `ReferenceIdeal` runs and leaves its arguments as they were. -/
theorem frame_ReferenceIdeal : Cert.quiescent_ReferenceIdeal (hReferenceIdeal := Cert.ReferenceIdeal.Gen.facts) := by
  intro m g _
  refine (θ_run Cert.ReferenceIdeal.defs _ _).mono (fun r h => ⟨fun c => ?_, sem_eq_zero_of_no_sems (by decide) r.2⟩)
    (Cert.ReferenceIdeal.Value.run (F := Ideal) m g)
  exact (h c).2

/-- The reference `OutMlpReferenceIdeal` runs and leaves its arguments as they were. -/
theorem frame_OutMlpReferenceIdeal : Cert.quiescent_OutMlpReferenceIdeal (hOutMlpReferenceIdeal := Cert.OutMlpReferenceIdeal.Gen.facts) := by
  intro m g _
  refine (θ_run Cert.OutMlpReferenceIdeal.defs _ _).mono (fun r h => ⟨fun c => ?_, sem_eq_zero_of_no_sems (by decide) r.2⟩)
    (Cert.OutMlpReferenceIdeal.Value.run (F := Ideal) m g)
  exact (h c).2

/-- The reference `MidMlpReferenceIdeal` runs and leaves its arguments as they were. -/
theorem frame_MidMlpReferenceIdeal : Cert.quiescent_MidMlpReferenceIdeal (hMidMlpReferenceIdeal := Cert.MidMlpReferenceIdeal.Gen.facts) := by
  intro m g _
  refine (θ_run Cert.MidMlpReferenceIdeal.defs _ _).mono (fun r h => ⟨fun c => ?_, sem_eq_zero_of_no_sems (by decide) r.2⟩)
    (Cert.MidMlpReferenceIdeal.Value.run (F := Ideal) m g)
  exact (h c).2

/-- The reference `QkvProjReferenceIdeal` runs and leaves its arguments as they were. -/
theorem frame_QkvProjReferenceIdeal : Cert.quiescent_QkvProjReferenceIdeal (hQkvProjReferenceIdeal := Cert.QkvProjReferenceIdeal.Gen.facts) := by
  intro m g _
  refine (θ_run Cert.QkvProjReferenceIdeal.defs _ _).mono (fun r h => ⟨fun c => ?_, sem_eq_zero_of_no_sems (by decide) r.2⟩)
    (Cert.QkvProjReferenceIdeal.Value.run (F := Ideal) m g)
  exact (h c).2

/-- The reference `GdnProjReferenceIdeal` runs and leaves its arguments as they were. -/
theorem frame_GdnProjReferenceIdeal : Cert.quiescent_GdnProjReferenceIdeal (hGdnProjReferenceIdeal := Cert.GdnProjReferenceIdeal.Gen.facts) := by
  intro m g _
  refine (θ_run Cert.GdnProjReferenceIdeal.defs _ _).mono (fun r h => ⟨fun c => ?_, sem_eq_zero_of_no_sems (by decide) r.2⟩)
    (Cert.GdnProjReferenceIdeal.Value.run (F := Ideal) m g)
  exact (h c).2.2

/-- The last layer's output projection, MLP and final norm equal the reference's. -/
theorem algebraic_OutMlp : Cert.algebraic_OutMlpIdeal_OutMlpReferenceIdeal (hOutMlpIdeal := Cert.OutMlpIdeal.Gen.facts)
    (hOutMlpReferenceIdeal := Cert.OutMlpReferenceIdeal.Gen.facts) := by
  pair_intro
  · run_from Cert.OutMlpIdeal.Gen.run_main m g
  · run_from Cert.OutMlpReferenceIdeal.Value.run m' g'
    obtain ⟨h0, h1, h2, h3, h4, h5, h6⟩ := hagree c
    unfold Cert.OutMlpReferenceIdeal.Value.res_main_v34
    rw [h0, h1, h2, h3, h4, h5, h6]
    exact (Cert.OutMlpIdeal.Value.final m c).symm

/-- The first layer's output projection and MLP equal the reference's. -/
theorem algebraic_MidMlp : Cert.algebraic_MidMlpIdeal_MidMlpReferenceIdeal (hMidMlpIdeal := Cert.MidMlpIdeal.Gen.facts)
    (hMidMlpReferenceIdeal := Cert.MidMlpReferenceIdeal.Gen.facts) := by
  pair_intro
  · run_from Cert.MidMlpIdeal.Gen.run_main m g
  · run_from Cert.MidMlpReferenceIdeal.Value.run m' g'
    obtain ⟨h0, h1, h2, h3, h4, h5, h6⟩ := hagree c
    exact (Cert.MidMlpIdeal.Value.final m c).symm

/-- The MoBA layer's input projection equals the reference's. -/
theorem algebraic_QkvProj : Cert.algebraic_QkvProjIdeal_QkvProjReferenceIdeal (hQkvProjIdeal := Cert.QkvProjIdeal.Gen.facts)
    (hQkvProjReferenceIdeal := Cert.QkvProjReferenceIdeal.Gen.facts) := by
  pair_intro
  · run_from Cert.QkvProjIdeal.Gen.run_main m g
  · run_from Cert.QkvProjReferenceIdeal.Value.run m' g'
    exact (Cert.QkvProjIdeal.Value.final m c).symm

/-- The gated DeltaNet layer's two input projections equal the reference's. -/
theorem algebraic_GdnProj : Cert.algebraic_GdnProjIdeal_GdnProjReferenceIdeal (hGdnProjIdeal := Cert.GdnProjIdeal.Gen.facts)
    (hGdnProjReferenceIdeal := Cert.GdnProjReferenceIdeal.Gen.facts) := by
  pair_intro
  · run_from Cert.GdnProjIdeal.Gen.run_main m g
  · run_from Cert.GdnProjReferenceIdeal.Value.run m' g'
    · exact (Cert.GdnProjIdeal.Value.final4 m c).symm
    · exact (Cert.GdnProjIdeal.Value.final5 m c).symm

/-- With finite queries and keys, the MoBA attention's result is the reference's. -/
theorem algebraic_Kernel : Cert.algebraic_KernelIdeal_ReferenceIdeal_pre_finite_qk (hKernelIdeal := Cert.KernelIdeal.Gen.facts)
    (hReferenceIdeal := Cert.ReferenceIdeal.Gen.facts) (hPre_finite_qk := Cert.Pre_finite_qk.facts) := by
  pair_intro
  · run_from Cert.KernelIdeal.Gen.run_main m g
  · run_from Cert.ReferenceIdeal.Value.run m' g'
    have hX := Cert.Pre_finite_qk.finite _ (hpre c)
    refine Eq.trans ?_ (Cert.KernelIdeal.Value.kernel_final m c hX).symm
    exact Cert.ReferenceIdeal.Value.ref_at _ _ (hagree c) hX

theorem claim : Cert.Claim := ⟨Cert.Kernel.Gen.facts, Cert.KernelIdeal.Gen.facts, Cert.ReferenceIdeal.Gen.facts, Cert.OutMlp.Gen.facts, Cert.OutMlpIdeal.Gen.facts, Cert.OutMlpReferenceIdeal.Gen.facts, Cert.MidMlp.Gen.facts, Cert.MidMlpIdeal.Gen.facts, Cert.MidMlpReferenceIdeal.Gen.facts, Cert.QkvProj.Gen.facts, Cert.QkvProjIdeal.Gen.facts, Cert.QkvProjReferenceIdeal.Gen.facts, Cert.GdnProj.Gen.facts, Cert.GdnProjIdeal.Gen.facts, Cert.GdnProjReferenceIdeal.Gen.facts, Cert.Pre_finite_qk.facts,
  fun m ρ _ => Cert.Kernel.Gen.frame m ρ,
  fun m ρ _ => Cert.KernelIdeal.Gen.frame m ρ,
  fun m ρ _ => Cert.KernelIdeal.Gen.frame m ρ,
  frame_ReferenceIdeal,
  fun m ρ _ => frame_ReferenceIdeal m ρ trivial,
  fun m ρ _ => Cert.OutMlp.Gen.frame m ρ,
  fun m ρ _ => Cert.OutMlpIdeal.Gen.frame m ρ,
  frame_OutMlpReferenceIdeal,
  fun m ρ _ => Cert.MidMlp.Gen.frame m ρ,
  fun m ρ _ => Cert.MidMlpIdeal.Gen.frame m ρ,
  frame_MidMlpReferenceIdeal,
  fun m ρ _ => Cert.QkvProj.Gen.frame m ρ,
  fun m ρ _ => Cert.QkvProjIdeal.Gen.frame m ρ,
  frame_QkvProjReferenceIdeal,
  fun m ρ _ => Cert.GdnProj.Gen.frame m ρ,
  fun m ρ _ => Cert.GdnProjIdeal.Gen.frame m ρ,
  frame_GdnProjReferenceIdeal,
  trivial,
  algebraic_Kernel,
  trivial,
  algebraic_OutMlp,
  trivial,
  algebraic_MidMlp,
  trivial,
  algebraic_QkvProj,
  trivial,
  algebraic_GdnProj⟩

end Cert.Proof

end
